-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8x192x224x224 : Shape := ⟨4, ![8, 192, 224, 224]⟩
abbrev S1536x50176 : Shape := ⟨2, ![1536, 50176]⟩
abbrev S4x8x50176 : Shape := ⟨3, ![4, 8, 50176]⟩
abbrev S4 : Shape := ⟨1, ![4]⟩
abbrev S1 : Shape := ⟨1, ![1]⟩
abbrev S_ : Shape := ⟨0, ![]⟩
abbrev S1x8x50176 : Shape := ⟨3, ![1, 8, 50176]⟩
abbrev S8x50176 : Shape := ⟨2, ![8, 50176]⟩
abbrev S1x50176 : Shape := ⟨2, ![1, 50176]⟩
abbrev S50176 : Shape := ⟨1, ![50176]⟩
abbrev S1x1x50176 : Shape := ⟨3, ![1, 1, 50176]⟩

abbrev nBuf : Table → Nat
  | .hbm => 4
  | .shared => 1
  | _ => 0

abbrev bufTy : (tb : Table) → Fin (nBuf tb) → BufTy
  | .hbm, ⟨0, _⟩ => ⟨S8x192x224x224, .f32⟩
  | .hbm, ⟨1, _⟩ => ⟨S1536x50176, .f32⟩
  | .hbm, ⟨2, _⟩ => ⟨S1536x50176, .f32⟩
  | .hbm, ⟨3, _⟩ => ⟨S8x192x224x224, .f32⟩
  | .shared, ⟨0, _⟩ => ⟨S4x8x50176, .f32⟩
  | _, _ => ⟨S8x192x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scs : Ref sig .scScalar := ⟨.hbm, 1, rfl⟩
abbrev main_v1_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (c0_i32 : BitVec 32) : Fin 1 → Nat :=
  let c4_i32 : BitVec 32 := 4#32
  let v1 : BitVec 32 := Scalar.remsi c0_i32 c4_i32
  ![v1.toNat]
def k0_off1_at (r : Fin 7) : BitVec 32 :=
  if r.val < 3 then
    if r.val < 1 then
      0#32
    else
      if r.val < 2 then
        1#32
      else
        2#32
  else
    if r.val < 5 then
      if r.val < 4 then
        92#32
      else
        93#32
    else
      if r.val < 6 then
        94#32
      else
        95#32
def k0_off2 (c0_i32 : BitVec 32) : Fin 3 → Nat :=
  let c4_i32 : BitVec 32 := 4#32
  let v1 : BitVec 32 := Scalar.remsi c0_i32 c4_i32
  let c0_i32_8 : BitVec 32 := 0#32
  let c0_i32_9 : BitVec 32 := 0#32
  ![v1.toNat, 0, 0]
def k0_off3 (i : grid0.Coords) (c0_i32_0 : BitVec 32) : Fin 2 → Nat :=
  let arg0 : BitVec 32 := BitVec.ofNat 32 (i 0).val
  let c768_i32 : BitVec 32 := 768#32
  let v0 : BitVec 32 := Scalar.muli arg0 c768_i32
  let v2 : BitVec 32 := Scalar.addi v0 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c192_i32 : BitVec 32 := 192#32
  let c0_i32_3 : BitVec 32 := 0#32
  let v9 : BitVec 1 := Scalar.cmpi .sgt c192_i32 c0_i32_3
  let v10 : BitVec 32 := Scalar.extui v9
  let c0_i32_4 : BitVec 32 := 0#32
  let v11 : BitVec 1 := Scalar.cmpi .slt c192_i32 c0_i32_4
  let v12 : BitVec 32 := Scalar.extui v11
  let v13 : BitVec 32 := Scalar.subi v10 v12
  let v14 : BitVec 1 := Scalar.cmpi .ne v8 v13
  let v15 : BitVec 32 := Scalar.remsi v2 c192_i32
  let c0_i32_5 : BitVec 32 := 0#32
  let v16 : BitVec 1 := Scalar.cmpi .ne v15 c0_i32_5
  let v17 : BitVec 1 := Scalar.andi v14 v16
  let v3 : BitVec 32 := Scalar.divsi v2 c192_i32
  let c1_i32 : BitVec 32 := 1#32
  let v18 : BitVec 32 := Scalar.subi v3 c1_i32
  let v19 : BitVec 32 := Scalar.select v17 v18 v3
  let c192_i32_7 : BitVec 32 := 192#32
  let v21 : BitVec 32 := Scalar.muli v19 c192_i32_7
  let c191_i32 : BitVec 32 := 191#32
  let c192_i32_6 : BitVec 32 := 192#32
  let v20 : BitVec 32 := Scalar.remsi v2 c192_i32_6
  let v22 : BitVec 32 := Scalar.subi c191_i32 v20
  let c7_i32 : BitVec 32 := 7#32
  let v23 : BitVec 32 := Scalar.subi v22 c7_i32
  let v24 : BitVec 32 := Scalar.addi v21 v23
  let c0_i32_10 : BitVec 32 := 0#32
  ![v24.toNat, 0]
@[reducible] def k0_t1_loop : Scf.Loop 32 :=
  let c0_i32_43 : BitVec 32 := 0#32
  let c96_i32 : BitVec 32 := 96#32
  let v88 : BitVec 32 := Scalar.addi c0_i32_43 c96_i32
  let c1_i32_44 : BitVec 32 := 1#32
  ⟨c0_i32_43, v88, c1_i32_44⟩
def k0_off4 (k0_t1 : Fin k0_t1_loop.trips) : Fin 1 → Nat :=
  let c0_i32_43 : BitVec 32 := 0#32
  let c1_i32_44 : BitVec 32 := 1#32
  let arg6 : BitVec 32 := Scf.iv c0_i32_43 c1_i32_44 k0_t1
  let c4_i32_219 : BitVec 32 := 4#32
  let v409 : BitVec 32 := Scalar.remsi arg6 c4_i32_219
  ![v409.toNat]
def k0_off5 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_219 : BitVec 32 := 4#32
  let v409 : BitVec 32 := Scalar.remsi arg6 c4_i32_219
  let c0_i32_232 : BitVec 32 := 0#32
  let c0_i32_233 : BitVec 32 := 0#32
  ![v409.toNat, 0, 0]
def k0_off6 (i : grid0.Coords) (k0_t1 : Fin k0_t1_loop.trips) : Fin 2 → Nat :=
  let arg0 : BitVec 32 := BitVec.ofNat 32 (i 0).val
  let c768_i32 : BitVec 32 := 768#32
  let v0 : BitVec 32 := Scalar.muli arg0 c768_i32
  let c0_i32_43 : BitVec 32 := 0#32
  let c1_i32_44 : BitVec 32 := 1#32
  let arg6 : BitVec 32 := Scf.iv c0_i32_43 c1_i32_44 k0_t1
  let c8_i32_220 : BitVec 32 := 8#32
  let v410 : BitVec 32 := Scalar.muli arg6 c8_i32_220
  let v411 : BitVec 32 := Scalar.addi v0 v410
  let c0_i32_222 : BitVec 32 := 0#32
  let v413 : BitVec 1 := Scalar.cmpi .sgt v411 c0_i32_222
  let v414 : BitVec 32 := Scalar.extui v413
  let c0_i32_223 : BitVec 32 := 0#32
  let v415 : BitVec 1 := Scalar.cmpi .slt v411 c0_i32_223
  let v416 : BitVec 32 := Scalar.extui v415
  let v417 : BitVec 32 := Scalar.subi v414 v416
  let c192_i32_221 : BitVec 32 := 192#32
  let c0_i32_224 : BitVec 32 := 0#32
  let v418 : BitVec 1 := Scalar.cmpi .sgt c192_i32_221 c0_i32_224
  let v419 : BitVec 32 := Scalar.extui v418
  let c0_i32_225 : BitVec 32 := 0#32
  let v420 : BitVec 1 := Scalar.cmpi .slt c192_i32_221 c0_i32_225
  let v421 : BitVec 32 := Scalar.extui v420
  let v422 : BitVec 32 := Scalar.subi v419 v421
  let v423 : BitVec 1 := Scalar.cmpi .ne v417 v422
  let v424 : BitVec 32 := Scalar.remsi v411 c192_i32_221
  let c0_i32_226 : BitVec 32 := 0#32
  let v425 : BitVec 1 := Scalar.cmpi .ne v424 c0_i32_226
  let v426 : BitVec 1 := Scalar.andi v423 v425
  let v412 : BitVec 32 := Scalar.divsi v411 c192_i32_221
  let c1_i32_227 : BitVec 32 := 1#32
  let v427 : BitVec 32 := Scalar.subi v412 c1_i32_227
  let v428 : BitVec 32 := Scalar.select v426 v427 v412
  let c192_i32_229 : BitVec 32 := 192#32
  let v430 : BitVec 32 := Scalar.muli v428 c192_i32_229
  let c191_i32_230 : BitVec 32 := 191#32
  let c192_i32_228 : BitVec 32 := 192#32
  let v429 : BitVec 32 := Scalar.remsi v411 c192_i32_228
  let v431 : BitVec 32 := Scalar.subi c191_i32_230 v429
  let c7_i32_231 : BitVec 32 := 7#32
  let v432 : BitVec 32 := Scalar.subi v431 c7_i32_231
  let v433 : BitVec 32 := Scalar.addi v430 v432
  let c0_i32_234 : BitVec 32 := 0#32
  ![v433.toNat, 0]
def k0_off7 (i : grid0.Coords) (k0_t1 : Fin k0_t1_loop.trips) (c0_i32_248 : BitVec 32) : Fin 2 → Nat :=
  let arg0 : BitVec 32 := BitVec.ofNat 32 (i 0).val
  let c768_i32 : BitVec 32 := 768#32
  let v0 : BitVec 32 := Scalar.muli arg0 c768_i32
  let c0_i32_43 : BitVec 32 := 0#32
  let c1_i32_44 : BitVec 32 := 1#32
  let arg6 : BitVec 32 := Scf.iv c0_i32_43 c1_i32_44 k0_t1
  let c8_i32_236 : BitVec 32 := 8#32
  let v440 : BitVec 32 := Scalar.muli arg6 c8_i32_236
  let v441 : BitVec 32 := Scalar.addi v0 v440
  let v464 : BitVec 32 := Scalar.addi v441 c0_i32_248
  let c0_i32_250 : BitVec 32 := 0#32
  ![v464.toNat, 0]
def k0_off8 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_235 : BitVec 32 := 4#32
  let v439 : BitVec 32 := Scalar.remsi arg6 c4_i32_235
  let c7_i32_249 : BitVec 32 := 7#32
  let c0_i32_251 : BitVec 32 := 0#32
  ![v439.toNat, 7, 0]
def k0_off9 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_235 : BitVec 32 := 4#32
  let v439 : BitVec 32 := Scalar.remsi arg6 c4_i32_235
  let c6_i32_253 : BitVec 32 := 6#32
  let c0_i32_255 : BitVec 32 := 0#32
  ![v439.toNat, 6, 0]
def k0_off10 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_235 : BitVec 32 := 4#32
  let v439 : BitVec 32 := Scalar.remsi arg6 c4_i32_235
  let c5_i32_257 : BitVec 32 := 5#32
  let c0_i32_259 : BitVec 32 := 0#32
  ![v439.toNat, 5, 0]
def k0_off11 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_235 : BitVec 32 := 4#32
  let v439 : BitVec 32 := Scalar.remsi arg6 c4_i32_235
  let c4_i32_261 : BitVec 32 := 4#32
  let c0_i32_263 : BitVec 32 := 0#32
  ![v439.toNat, 4, 0]
def k0_off12 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_235 : BitVec 32 := 4#32
  let v439 : BitVec 32 := Scalar.remsi arg6 c4_i32_235
  let c3_i32_265 : BitVec 32 := 3#32
  let c0_i32_267 : BitVec 32 := 0#32
  ![v439.toNat, 3, 0]
def k0_off13 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_235 : BitVec 32 := 4#32
  let v439 : BitVec 32 := Scalar.remsi arg6 c4_i32_235
  let c2_i32_269 : BitVec 32 := 2#32
  let c0_i32_271 : BitVec 32 := 0#32
  ![v439.toNat, 2, 0]
def k0_off14 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_235 : BitVec 32 := 4#32
  let v439 : BitVec 32 := Scalar.remsi arg6 c4_i32_235
  let c1_i32_273 : BitVec 32 := 1#32
  let c0_i32_275 : BitVec 32 := 0#32
  ![v439.toNat, 1, 0]
def k0_off15 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_235 : BitVec 32 := 4#32
  let v439 : BitVec 32 := Scalar.remsi arg6 c4_i32_235
  let c0_i32_277 : BitVec 32 := 0#32
  let c0_i32_279 : BitVec 32 := 0#32
  ![v439.toNat, 0, 0]
def k0_cond1 (k0_t1 : Fin k0_t1_loop.trips) : BitVec 1 :=
  let c0_i32_43 : BitVec 32 := 0#32
  let c1_i32_44 : BitVec 32 := 1#32
  let arg6 : BitVec 32 := Scf.iv c0_i32_43 c1_i32_44 k0_t1
  let c1_i32_280 : BitVec 32 := 1#32
  let v520 : BitVec 1 := Scalar.cmpi .sge arg6 c1_i32_280
  let c4_i32_281 : BitVec 32 := 4#32
  let v521 : BitVec 32 := Scalar.addi arg6 c4_i32_281
  let c1_i32_282 : BitVec 32 := 1#32
  let v522 : BitVec 32 := Scalar.subi v521 c1_i32_282
  let c96_i32_283 : BitVec 32 := 96#32
  let v523 : BitVec 1 := Scalar.cmpi .slt v522 c96_i32_283
  let v524 : BitVec 1 := Scalar.andi v520 v523
  let v525 : BitVec 32 := Scalar.extui v524
  let c0_i32_284 : BitVec 32 := 0#32
  let v526 : BitVec 1 := Scalar.cmpi .ne v525 c0_i32_284
  v526

def k0_off16 (k0_t1 : Fin k0_t1_loop.trips) : Fin 1 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  ![v533.toNat]
def k0_off17 (i : grid0.Coords) (k0_t1 : Fin k0_t1_loop.trips) (c0_i32_303 : BitVec 32) : Fin 2 → Nat :=
  let arg0 : BitVec 32 := BitVec.ofNat 32 (i 0).val
  let c768_i32 : BitVec 32 := 768#32
  let v0 : BitVec 32 := Scalar.muli arg0 c768_i32
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c8_i32_291 : BitVec 32 := 8#32
  let v534 : BitVec 32 := Scalar.muli v532 c8_i32_291
  let v535 : BitVec 32 := Scalar.addi v0 v534
  let v558 : BitVec 32 := Scalar.addi v535 c0_i32_303
  let c0_i32_305 : BitVec 32 := 0#32
  ![v558.toNat, 0]
def k0_off18 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  let c7_i32_304 : BitVec 32 := 7#32
  let c0_i32_306 : BitVec 32 := 0#32
  ![v533.toNat, 7, 0]
def k0_off19 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  let c6_i32_308 : BitVec 32 := 6#32
  let c0_i32_310 : BitVec 32 := 0#32
  ![v533.toNat, 6, 0]
def k0_off20 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  let c5_i32_312 : BitVec 32 := 5#32
  let c0_i32_314 : BitVec 32 := 0#32
  ![v533.toNat, 5, 0]
def k0_off21 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  let c4_i32_316 : BitVec 32 := 4#32
  let c0_i32_318 : BitVec 32 := 0#32
  ![v533.toNat, 4, 0]
def k0_off22 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  let c3_i32_320 : BitVec 32 := 3#32
  let c0_i32_322 : BitVec 32 := 0#32
  ![v533.toNat, 3, 0]
def k0_off23 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  let c2_i32_324 : BitVec 32 := 2#32
  let c0_i32_326 : BitVec 32 := 0#32
  ![v533.toNat, 2, 0]
def k0_off24 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  let c1_i32_328 : BitVec 32 := 1#32
  let c0_i32_330 : BitVec 32 := 0#32
  ![v533.toNat, 1, 0]
def k0_off25 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c1_i32_289 : BitVec 32 := 1#32
  let v532 : BitVec 32 := Scalar.subi arg6 c1_i32_289
  let c4_i32_290 : BitVec 32 := 4#32
  let v533 : BitVec 32 := Scalar.remsi v532 c4_i32_290
  let c0_i32_332 : BitVec 32 := 0#32
  let c0_i32_334 : BitVec 32 := 0#32
  ![v533.toNat, 0, 0]
def k0_cond2 (k0_t1 : Fin k0_t1_loop.trips) : BitVec 1 :=
  let c0_i32_43 : BitVec 32 := 0#32
  let c1_i32_44 : BitVec 32 := 1#32
  let arg6 : BitVec 32 := Scf.iv c0_i32_43 c1_i32_44 k0_t1
  let c4_i32_285 : BitVec 32 := 4#32
  let v527 : BitVec 32 := Scalar.addi arg6 c4_i32_285
  let c1_i32_286 : BitVec 32 := 1#32
  let v528 : BitVec 32 := Scalar.subi v527 c1_i32_286
  let c96_i32_287 : BitVec 32 := 96#32
  let v529 : BitVec 1 := Scalar.cmpi .slt v528 c96_i32_287
  let v530 : BitVec 32 := Scalar.extui v529
  let c0_i32_288 : BitVec 32 := 0#32
  let v531 : BitVec 1 := Scalar.cmpi .ne v530 c0_i32_288
  v531

def k0_off26 (k0_t1 : Fin k0_t1_loop.trips) : Fin 1 → Nat :=
  let c0_i32_43 : BitVec 32 := 0#32
  let c1_i32_44 : BitVec 32 := 1#32
  let arg6 : BitVec 32 := Scf.iv c0_i32_43 c1_i32_44 k0_t1
  let c4_i32_289 : BitVec 32 := 4#32
  let v532 : BitVec 32 := Scalar.addi arg6 c4_i32_289
  let c1_i32_290 : BitVec 32 := 1#32
  let v533 : BitVec 32 := Scalar.subi v532 c1_i32_290
  let c4_i32_291 : BitVec 32 := 4#32
  let v534 : BitVec 32 := Scalar.remsi v533 c4_i32_291
  ![v534.toNat]
def k0_off27 (k0_t1 : Fin k0_t1_loop.trips) : Fin 3 → Nat :=
  let c0_i32_43 : BitVec 32 := 0#32
  let c1_i32_44 : BitVec 32 := 1#32
  let arg6 : BitVec 32 := Scf.iv c0_i32_43 c1_i32_44 k0_t1
  let c4_i32_289 : BitVec 32 := 4#32
  let v532 : BitVec 32 := Scalar.addi arg6 c4_i32_289
  let c1_i32_290 : BitVec 32 := 1#32
  let v533 : BitVec 32 := Scalar.subi v532 c1_i32_290
  let c4_i32_291 : BitVec 32 := 4#32
  let v534 : BitVec 32 := Scalar.remsi v533 c4_i32_291
  let c0_i32_304 : BitVec 32 := 0#32
  let c0_i32_305 : BitVec 32 := 0#32
  ![v534.toNat, 0, 0]
def k0_off28 (i : grid0.Coords) (k0_t1 : Fin k0_t1_loop.trips) : Fin 2 → Nat :=
  let arg0 : BitVec 32 := BitVec.ofNat 32 (i 0).val
  let c768_i32 : BitVec 32 := 768#32
  let v0 : BitVec 32 := Scalar.muli arg0 c768_i32
  let c0_i32_43 : BitVec 32 := 0#32
  let c1_i32_44 : BitVec 32 := 1#32
  let arg6 : BitVec 32 := Scf.iv c0_i32_43 c1_i32_44 k0_t1
  let c4_i32_289 : BitVec 32 := 4#32
  let v532 : BitVec 32 := Scalar.addi arg6 c4_i32_289
  let c1_i32_290 : BitVec 32 := 1#32
  let v533 : BitVec 32 := Scalar.subi v532 c1_i32_290
  let c8_i32_292 : BitVec 32 := 8#32
  let v535 : BitVec 32 := Scalar.muli v533 c8_i32_292
  let v536 : BitVec 32 := Scalar.addi v0 v535
  let c0_i32_294 : BitVec 32 := 0#32
  let v538 : BitVec 1 := Scalar.cmpi .sgt v536 c0_i32_294
  let v539 : BitVec 32 := Scalar.extui v538
  let c0_i32_295 : BitVec 32 := 0#32
  let v540 : BitVec 1 := Scalar.cmpi .slt v536 c0_i32_295
  let v541 : BitVec 32 := Scalar.extui v540
  let v542 : BitVec 32 := Scalar.subi v539 v541
  let c192_i32_293 : BitVec 32 := 192#32
  let c0_i32_296 : BitVec 32 := 0#32
  let v543 : BitVec 1 := Scalar.cmpi .sgt c192_i32_293 c0_i32_296
  let v544 : BitVec 32 := Scalar.extui v543
  let c0_i32_297 : BitVec 32 := 0#32
  let v545 : BitVec 1 := Scalar.cmpi .slt c192_i32_293 c0_i32_297
  let v546 : BitVec 32 := Scalar.extui v545
  let v547 : BitVec 32 := Scalar.subi v544 v546
  let v548 : BitVec 1 := Scalar.cmpi .ne v542 v547
  let v549 : BitVec 32 := Scalar.remsi v536 c192_i32_293
  let c0_i32_298 : BitVec 32 := 0#32
  let v550 : BitVec 1 := Scalar.cmpi .ne v549 c0_i32_298
  let v551 : BitVec 1 := Scalar.andi v548 v550
  let v537 : BitVec 32 := Scalar.divsi v536 c192_i32_293
  let c1_i32_299 : BitVec 32 := 1#32
  let v552 : BitVec 32 := Scalar.subi v537 c1_i32_299
  let v553 : BitVec 32 := Scalar.select v551 v552 v537
  let c192_i32_301 : BitVec 32 := 192#32
  let v555 : BitVec 32 := Scalar.muli v553 c192_i32_301
  let c191_i32_302 : BitVec 32 := 191#32
  let c192_i32_300 : BitVec 32 := 192#32
  let v554 : BitVec 32 := Scalar.remsi v536 c192_i32_300
  let v556 : BitVec 32 := Scalar.subi c191_i32_302 v554
  let c7_i32_303 : BitVec 32 := 7#32
  let v557 : BitVec 32 := Scalar.subi v556 c7_i32_303
  let v558 : BitVec 32 := Scalar.addi v555 v557
  let c0_i32_306 : BitVec 32 := 0#32
  ![v558.toNat, 0]
def k0_off29 (i : grid0.Coords) (c736_i32 : BitVec 32) (c0_i32_58 : BitVec 32) : Fin 2 → Nat :=
  let arg0 : BitVec 32 := BitVec.ofNat 32 (i 0).val
  let c768_i32 : BitVec 32 := 768#32
  let v0 : BitVec 32 := Scalar.muli arg0 c768_i32
  let v90 : BitVec 32 := Scalar.addi v0 c736_i32
  let v113 : BitVec 32 := Scalar.addi v90 c0_i32_58
  let c0_i32_60 : BitVec 32 := 0#32
  ![v113.toNat, 0]
def k0_off30 (c92_i32 : BitVec 32) : Fin 3 → Nat :=
  let c4_i32_46 : BitVec 32 := 4#32
  let v89 : BitVec 32 := Scalar.remsi c92_i32 c4_i32_46
  let c7_i32_59 : BitVec 32 := 7#32
  let c0_i32_61 : BitVec 32 := 0#32
  ![v89.toNat, 7, 0]
def k0_off31 (c92_i32 : BitVec 32) : Fin 3 → Nat :=
  let c4_i32_46 : BitVec 32 := 4#32
  let v89 : BitVec 32 := Scalar.remsi c92_i32 c4_i32_46
  let c6_i32 : BitVec 32 := 6#32
  let c0_i32_64 : BitVec 32 := 0#32
  ![v89.toNat, 6, 0]
def k0_off32 (c92_i32 : BitVec 32) : Fin 3 → Nat :=
  let c4_i32_46 : BitVec 32 := 4#32
  let v89 : BitVec 32 := Scalar.remsi c92_i32 c4_i32_46
  let c5_i32 : BitVec 32 := 5#32
  let c0_i32_67 : BitVec 32 := 0#32
  ![v89.toNat, 5, 0]
def k0_off33 (c92_i32 : BitVec 32) : Fin 3 → Nat :=
  let c4_i32_46 : BitVec 32 := 4#32
  let v89 : BitVec 32 := Scalar.remsi c92_i32 c4_i32_46
  let c4_i32_68 : BitVec 32 := 4#32
  let c0_i32_70 : BitVec 32 := 0#32
  ![v89.toNat, 4, 0]
def k0_off34 (c92_i32 : BitVec 32) : Fin 3 → Nat :=
  let c4_i32_46 : BitVec 32 := 4#32
  let v89 : BitVec 32 := Scalar.remsi c92_i32 c4_i32_46
  let c3_i32_72 : BitVec 32 := 3#32
  let c0_i32_74 : BitVec 32 := 0#32
  ![v89.toNat, 3, 0]
def k0_off35 (c92_i32 : BitVec 32) : Fin 3 → Nat :=
  let c4_i32_46 : BitVec 32 := 4#32
  let v89 : BitVec 32 := Scalar.remsi c92_i32 c4_i32_46
  let c2_i32_76 : BitVec 32 := 2#32
  let c0_i32_78 : BitVec 32 := 0#32
  ![v89.toNat, 2, 0]
def k0_off36 (c92_i32 : BitVec 32) : Fin 3 → Nat :=
  let c4_i32_46 : BitVec 32 := 4#32
  let v89 : BitVec 32 := Scalar.remsi c92_i32 c4_i32_46
  let c1_i32_80 : BitVec 32 := 1#32
  let c0_i32_82 : BitVec 32 := 0#32
  ![v89.toNat, 1, 0]
def k0_off37 (c92_i32 : BitVec 32) : Fin 3 → Nat :=
  let c4_i32_46 : BitVec 32 := 4#32
  let v89 : BitVec 32 := Scalar.remsi c92_i32 c4_i32_46
  let c0_i32_84 : BitVec 32 := 0#32
  let c0_i32_86 : BitVec 32 := 0#32
  ![v89.toNat, 0, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8x192x224x224 : Shape := ⟨4, ![8, 192, 224, 224]⟩
abbrev S192 : Shape := ⟨1, ![192]⟩
abbrev S_ : Shape := ⟨0, ![]⟩
abbrev S192x1 : Shape := ⟨2, ![192, 1]⟩
abbrev S1 : Shape := ⟨1, ![1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x192x224x224, .f32⟩
  | .hbm, ⟨1, _⟩ => ⟨S192, .i32⟩
  | .hbm, ⟨2, _⟩ => ⟨S_, .i32⟩
  | .hbm, ⟨3, _⟩ => ⟨S192, .i32⟩
  | .hbm, ⟨4, _⟩ => ⟨S192, .i32⟩
  | .hbm, ⟨5, _⟩ => ⟨S_, .i32⟩
  | .hbm, ⟨6, _⟩ => ⟨S192, .i32⟩
  | .hbm, ⟨7, _⟩ => ⟨S192, .i32⟩
  | .hbm, ⟨8, _⟩ => ⟨S_, .i32⟩
  | .hbm, ⟨9, _⟩ => ⟨S192, .i32⟩
  | .hbm, ⟨10, _⟩ => ⟨S192, .i1⟩
  | .hbm, ⟨11, _⟩ => ⟨S_, .i32⟩
  | .hbm, ⟨12, _⟩ => ⟨S192, .i32⟩
  | .hbm, ⟨13, _⟩ => ⟨S192, .i32⟩
  | .hbm, ⟨14, _⟩ => ⟨S192, .i32⟩
  | .hbm, ⟨15, _⟩ => ⟨S192x1, .i32⟩
  | .hbm, ⟨16, _⟩ => ⟨S1, .i32⟩
  | .hbm, ⟨17, _⟩ => ⟨S_, .i32⟩
  | .hbm, ⟨18, _⟩ => ⟨S192x1, .i32⟩
  | .hbm, ⟨19, _⟩ => ⟨S192x1, .i1⟩
  | .hbm, ⟨20, _⟩ => ⟨S1x1, .i32⟩
  | .hbm, ⟨21, _⟩ => ⟨S192x1, .i32⟩
  | .hbm, ⟨22, _⟩ => ⟨S192x1, .i1⟩
  | .hbm, ⟨23, _⟩ => ⟨S192x1, .i1⟩
  | .hbm, ⟨24, _⟩ => ⟨S_, .i1⟩
  | .hbm, ⟨25, _⟩ => ⟨S192, .i1⟩
  | .hbm, ⟨26, _⟩ => ⟨S8x192x224x224, .f32⟩
  | .hbm, ⟨27, _⟩ => ⟨S8x192x224x224, .i1⟩
  | .hbm, ⟨28, _⟩ => ⟨S_, .f32⟩
  | .hbm, ⟨29, _⟩ => ⟨S8x192x224x224, .f32⟩
  | .hbm, ⟨30, _⟩ => ⟨S8x192x224x224, .f32⟩
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Rev.Geometry.lean ====
/-
  THE PIECES THE KERNEL MOVES, by number. One SparseCore's sequencer moves 96 groups of eight rows: group `g` of core `c` is
  read whole from the argument into bank `g % 4` of the shared scratch, and its rows leave that bank one by one, last row
  first. This module names those pieces — a group of the argument, a bank, a bank's row, a row of the result, the cells of
  the two semaphore arrays — at plain numbers, and says which elements of their buffers they are.
-/
module

public import proofs.«01_k».proof.Defs
public import proofs.«01_k».proof.Proof.Gen.KernelIdeal
public import Idealize.ShloMosaic.Lib.ValueLayout
public import Idealize.ShloMosaic.Lib.Ring
public import Idealize.ShloMosaic.Lib.Decide

@[expose] public section

noncomputable section

namespace Cert.Rev

open Cert.KernelIdeal Cert.KernelIdeal.Gen
open Idealize.ShloMosaic Idealize.ShloMosaic.ValueIdx

/-! ## The pieces at any offsets, spelt as the program spells them -/

/-- The argument's rows, the result's rows, and the four banks, whole, as the sequencer addresses them. -/
abbrev xW : Memref sig .scScalar .hbm S1536x50176 .f32 := Memref.whole main_v0_scs
abbrev oW : Memref sig .scScalar .hbm S1536x50176 .f32 := Memref.whole main_v1_scs
abbrev bW : Memref sig .scScalar .shared S4x8x50176 .f32 := Memref.whole cc0_scratch0

/-- Eight rows of the argument at offsets `o`. -/
def xAt (o : Fin 2 → Nat) (h : ∀ a, o a + S8x50176.size a ≤ S1536x50176.size a) : Memref sig .scScalar .hbm S8x50176 .f32 :=
  xW.slice (Rect.unit (s := S1536x50176) o S8x50176.size h) (fun _ => rfl)
/-- One row of the result at offsets `o`. -/
def oAt (o : Fin 2 → Nat) (h : ∀ a, o a + S1x50176.size a ≤ S1536x50176.size a) : Memref sig .scScalar .hbm S50176 .f32 :=
  (oW.slice (Rect.unit (s := S1536x50176) o S1x50176.size h) (fun _ => rfl)).squeeze S50176 squeezes_S1x50176_S50176
/-- A bank at offsets `o`. -/
def bAt (o : Fin 3 → Nat) (h : ∀ a, o a + S1x8x50176.size a ≤ S4x8x50176.size a) : Memref sig .scScalar .shared S8x50176 .f32 :=
  (bW.slice (Rect.unit (s := S4x8x50176) o S1x8x50176.size h) (fun _ => rfl)).squeeze S8x50176 squeezes_S1x8x50176_S8x50176
/-- A bank's row at offsets `o`. -/
def rAt (o : Fin 3 → Nat) (h : ∀ a, o a + S1x1x50176.size a ≤ S4x8x50176.size a) : Memref sig .scScalar .shared S50176 .f32 :=
  (bW.slice (Rect.unit (s := S4x8x50176) o S1x1x50176.size h) (fun _ => rfl)).squeeze S50176 squeezes_S1x1x50176_S50176
/-- A cell of the loads' array, and of the stores', at offsets `o`. -/
def lAt (o : Fin 1 → Nat) (h : ∀ a, o a + S1.size a ≤ S4.size a) : DmaSem sig :=
  ((cc0_scratch1.slice (Rect.unit (s := S4) o S1.size h)).squeeze S_ squeezes_S1_S_).sem
def sAt (o : Fin 1 → Nat) (h : ∀ a, o a + S1.size a ≤ S4.size a) : DmaSem sig :=
  ((cc0_scratch2.slice (Rect.unit (s := S4) o S1.size h)).squeeze S_ squeezes_S1_S_).sem

/-! ## The pieces by number -/

/-- Each piece lies within its array. -/
theorem grp_inb (h : Fin 192) : ∀ a, (![8 * h.val, 0] : Fin 2 → Nat) a + S8x50176.size a ≤ S1536x50176.size a := by
  have := h.isLt; intro a; fin_cases a <;> simp <;> omega
theorem row_inb (r : Fin 1536) : ∀ a, (![r.val, 0] : Fin 2 → Nat) a + S1x50176.size a ≤ S1536x50176.size a := by
  have := r.isLt; intro a; fin_cases a <;> simp <;> omega
theorem bank_inb (j : Fin 4) : ∀ a, (![j.val, 0, 0] : Fin 3 → Nat) a + S1x8x50176.size a ≤ S4x8x50176.size a := by
  have := j.isLt; intro a; fin_cases a <;> simp <;> omega
theorem bankRow_inb (j : Fin 4) (t : Fin 8) : ∀ a, (![j.val, t.val, 0] : Fin 3 → Nat) a + S1x1x50176.size a ≤ S4x8x50176.size a := by
  have := j.isLt; have := t.isLt; intro a; fin_cases a <;> simp <;> omega
theorem cell_inb (j : Fin 4) : ∀ a, (![j.val] : Fin 1 → Nat) a + S1.size a ≤ S4.size a := by
  have := j.isLt; intro a; fin_cases a; show j.val + 1 ≤ 4; omega

/-- Group `h` of the argument: its rows `8 h … 8 h + 7`. -/
def grp (h : Fin 192) : Memref sig .scScalar .hbm S8x50176 .f32 := xAt ![8 * h.val, 0] (grp_inb h)
/-- Row `r` of the result. -/
def row (r : Fin 1536) : Memref sig .scScalar .hbm S50176 .f32 := oAt ![r.val, 0] (row_inb r)
/-- Bank `j`. -/
def bank (j : Fin 4) : Memref sig .scScalar .shared S8x50176 .f32 := bAt ![j.val, 0, 0] (bank_inb j)
/-- Row `t` of bank `j`. -/
def bankRow (j : Fin 4) (t : Fin 8) : Memref sig .scScalar .shared S50176 .f32 := rAt ![j.val, t.val, 0] (bankRow_inb j t)
/-- Bank `j`'s load cell and its store cell. -/
def ld (j : Fin 4) : DmaSem sig := lAt ![j.val] (cell_inb j)
def st (j : Fin 4) : DmaSem sig := sAt ![j.val] (cell_inb j)

/-- Their numbers in the pool: the loads' cells are the first four, the stores' the next four. -/
theorem ld_eq : ∀ j : Fin 4, ld j = (⟨j.val, by have := j.isLt; show j.val < 8; omega⟩ : DmaSem sig) := by decide
theorem st_eq : ∀ j : Fin 4, st j = (⟨4 + j.val, by have := j.isLt; show 4 + j.val < 8; omega⟩ : DmaSem sig) := by decide

/-- A piece named at equal offsets is the same piece. -/
theorem xAt_congr {o o' : Fin 2 → Nat} (e : o = o') (h h') : xAt o h = xAt o' h' := by subst e; rfl
theorem oAt_congr {o o' : Fin 2 → Nat} (e : o = o') (h h') : oAt o h = oAt o' h' := by subst e; rfl
theorem bAt_congr {o o' : Fin 3 → Nat} (e : o = o') (h h') : bAt o h = bAt o' h' := by subst e; rfl
theorem rAt_congr {o o' : Fin 3 → Nat} (e : o = o') (h h') : rAt o h = rAt o' h' := by subst e; rfl
theorem lAt_congr {o o' : Fin 1 → Nat} (e : o = o') (h h') : lAt o h = lAt o' h' := by subst e; rfl
theorem sAt_congr {o o' : Fin 1 → Nat} (e : o = o') (h h') : sAt o h = sAt o' h' := by subst e; rfl

/-! ## The elements under the pieces -/

abbrev grpSet (h : Fin 192) : Finset S1536x50176.Idx := (Rect.unit (s := S1536x50176) ![8 * h.val, 0] S8x50176.size (grp_inb h)).set
abbrev rowSet (r : Fin 1536) : Finset S1536x50176.Idx := (Rect.unit (s := S1536x50176) ![r.val, 0] S1x50176.size (row_inb r)).set
abbrev bankSet (j : Fin 4) : Finset S4x8x50176.Idx := (Rect.unit (s := S4x8x50176) ![j.val, 0, 0] S1x8x50176.size (bank_inb j)).set
abbrev bankRowSet (j : Fin 4) (t : Fin 8) : Finset S4x8x50176.Idx :=
  (Rect.unit (s := S4x8x50176) ![j.val, t.val, 0] S1x1x50176.size (bankRow_inb j t)).set

/-- The entries each piece covers are a box's. -/
theorem grp_set (h : Fin 192) : (grp h).view.set = grpSet h := View.set_slice_whole _ _
theorem row_set (r : Fin 1536) : (row r).view.set = rowSet r := by
  simp only [row, oAt, Memref.view_squeeze, View.set_reshape]; exact View.set_slice_whole _ _
theorem bank_set (j : Fin 4) : (bank j).view.set = bankSet j := by
  simp only [bank, bAt, Memref.view_squeeze, View.set_reshape]; exact View.set_slice_whole _ _
theorem bankRow_set (j : Fin 4) (t : Fin 8) : (bankRow j t).view.set = bankRowSet j t := by
  simp only [bankRow, rAt, Memref.view_squeeze, View.set_reshape]; exact View.set_slice_whole _ _

/-- The groups are disjoint and make up the argument; -/
theorem grp_disjoint (h h' : Fin 192) (e : h ≠ h') : Disjoint (grpSet h) (grpSet h') :=
  Ring.lead_disjoint (s := S1536x50176) (0 : Fin 2) 8 (fun h : Fin 192 => (![8 * h.val, 0] : Fin 2 → Nat)) S8x50176.size grp_inb (fun h => by simp) rfl h h' e
theorem grp_cover : Finset.univ.biUnion grpSet = Finset.univ :=
  Ring.lead_cover (s := S1536x50176) (0 : Fin 2) 8 (fun h : Fin 192 => (![8 * h.val, 0] : Fin 2 → Nat)) S8x50176.size grp_inb (fun h => by simp)
    (fun h a ha => by fin_cases a <;> first | exact absurd rfl ha | rfl) rfl (fun a ha => by fin_cases a <;> first | exact absurd rfl ha | rfl) rfl
/-- the rows are disjoint and make up the result; -/
theorem row_disjoint (r r' : Fin 1536) (e : r ≠ r') : Disjoint (rowSet r) (rowSet r') :=
  Ring.lead_disjoint (s := S1536x50176) (0 : Fin 2) 1 (fun r : Fin 1536 => (![r.val, 0] : Fin 2 → Nat)) S1x50176.size row_inb (fun h => by simp) rfl r r' e
theorem row_cover : Finset.univ.biUnion rowSet = Finset.univ :=
  Ring.lead_cover (s := S1536x50176) (0 : Fin 2) 1 (fun r : Fin 1536 => (![r.val, 0] : Fin 2 → Nat)) S1x50176.size row_inb (fun h => by simp)
    (fun h a ha => by fin_cases a <;> first | exact absurd rfl ha | rfl) rfl (fun a ha => by fin_cases a <;> first | exact absurd rfl ha | rfl) rfl
/-- the banks are disjoint and make up the scratch; -/
theorem bank_disjoint (j j' : Fin 4) (e : j ≠ j') : Disjoint (bankSet j) (bankSet j') :=
  Ring.lead_disjoint (s := S4x8x50176) (0 : Fin 3) 1 (fun j : Fin 4 => (![j.val, 0, 0] : Fin 3 → Nat)) S1x8x50176.size bank_inb (fun h => by simp) rfl j j' e
theorem bank_cover : Finset.univ.biUnion bankSet = Finset.univ :=
  Ring.lead_cover (s := S4x8x50176) (0 : Fin 3) 1 (fun j : Fin 4 => (![j.val, 0, 0] : Fin 3 → Nat)) S1x8x50176.size bank_inb (fun h => by simp)
    (fun h a ha => by fin_cases a <;> first | exact absurd rfl ha | rfl) rfl (fun a ha => by fin_cases a <;> first | exact absurd rfl ha | rfl) rfl
/-- and a bank's rows are disjoint and make up the bank. -/
theorem bankRow_disjoint (j : Fin 4) (t t' : Fin 8) (e : t ≠ t') : Disjoint (bankRowSet j t) (bankRowSet j t') := by
  rw [Finset.disjoint_left]
  intro i hi hi'
  have h1 := (Rect.mem_set_unit.mp hi) 1
  have h2 := (Rect.mem_set_unit.mp hi') 1
  simp at h1 h2
  exact e (Fin.ext (by omega))
theorem bankRow_cover (j : Fin 4) : Finset.univ.biUnion (bankRowSet j) = bankSet j := by
  ext i
  simp only [Finset.mem_biUnion, Finset.mem_univ, true_and, Rect.mem_set_unit]
  have h2 : (i 2).val < 50176 := (i 2).isLt
  have h1 : (i 1).val < 8 := (i 1).isLt
  constructor
  · rintro ⟨t, ht⟩ a
    have h0 := ht 0
    fin_cases a <;> simp at h0 ⊢ <;> omega
  · intro h
    have h0 := h 0
    refine ⟨⟨(i 1).val, h1⟩, fun a => ?_⟩
    fin_cases a <;> simp at h0 ⊢ <;> omega

/-- Where an index of a piece sits in its buffer. -/
theorem grp_emb (h : Fin 192) (y : S8x50176.Idx) : (grp h).view.emb y = ix2 (⟨8 * h.val + (y 0).val, by have := h.isLt; have : (y 0).val < 8 := (y 0).isLt; omega⟩ : Fin 1536) (y 1) := by
  funext a
  fin_cases a
  · exact Fin.ext (by show 8 * h.val + 1 * (y 0).val = 8 * h.val + (y 0).val; omega)
  · exact Fin.ext (by show 0 + 1 * (y 1).val = (y 1).val; omega)
theorem row_emb (r : Fin 1536) (y : S50176.Idx) : (row r).view.emb y = ix2 r (y 0) := by
  have e : Shape.reshapeEquiv (squeezes_S1x50176_S50176.numel_eq) y = (ix2 (0 : Fin 1) (y 0) : S1x50176.Idx) :=
    Shape.reshapeEquiv_eq_of_rowMajor _ (by rw [Shape.rowMajor_val_one, Shape.rowMajor_val_two]; show (0 * 50176 + (y 0).val : Nat) = (y 0).val; omega)
  show (Rect.unit (s := S1536x50176) ![r.val, 0] S1x50176.size (row_inb r)).emb (Shape.reshapeEquiv (squeezes_S1x50176_S50176.numel_eq) y) = _
  rw [e]
  funext a
  fin_cases a
  · exact Fin.ext (by show r.val + 1 * 0 = r.val; omega)
  · exact Fin.ext (by show 0 + 1 * (y 0).val = (y 0).val; omega)
theorem bank_emb (j : Fin 4) (y : S8x50176.Idx) : (bank j).view.emb y = ix3 j (y 0) (y 1) := by
  have e : Shape.reshapeEquiv (squeezes_S1x8x50176_S8x50176.numel_eq) y = (ix3 (0 : Fin 1) (y 0) (y 1) : S1x8x50176.Idx) :=
    Shape.reshapeEquiv_eq_of_rowMajor _ (by rw [Shape.rowMajor_val_two, Shape.rowMajor_val_three]; show ((0 * 8 + (y 0).val) * 50176 + (y 1).val : Nat) = (y 0).val * 50176 + (y 1).val; omega)
  show (Rect.unit (s := S4x8x50176) ![j.val, 0, 0] S1x8x50176.size (bank_inb j)).emb (Shape.reshapeEquiv (squeezes_S1x8x50176_S8x50176.numel_eq) y) = _
  rw [e]
  funext a
  fin_cases a
  · exact Fin.ext (by show j.val + 1 * 0 = j.val; omega)
  · exact Fin.ext (by show 0 + 1 * (y 0).val = (y 0).val; omega)
  · exact Fin.ext (by show 0 + 1 * (y 1).val = (y 1).val; omega)
theorem bankRow_emb (j : Fin 4) (t : Fin 8) (y : S50176.Idx) : (bankRow j t).view.emb y = ix3 j t (y 0) := by
  have e : Shape.reshapeEquiv (squeezes_S1x1x50176_S50176.numel_eq) y = (ix3 (0 : Fin 1) (0 : Fin 1) (y 0) : S1x1x50176.Idx) :=
    Shape.reshapeEquiv_eq_of_rowMajor _ (by rw [Shape.rowMajor_val_one, Shape.rowMajor_val_three]; show ((0 * 1 + 0) * 50176 + (y 0).val : Nat) = (y 0).val; omega)
  show (Rect.unit (s := S4x8x50176) ![j.val, t.val, 0] S1x1x50176.size (bankRow_inb j t)).emb (Shape.reshapeEquiv (squeezes_S1x1x50176_S50176.numel_eq) y) = _
  rw [e]
  funext a
  fin_cases a
  · exact Fin.ext (by show j.val + 1 * 0 = j.val; omega)
  · exact Fin.ext (by show t.val + 1 * 0 = t.val; omega)
  · exact Fin.ext (by show 0 + 1 * (y 0).val = (y 0).val; omega)

end Cert.Rev

end
-- ==== Proof.Rev.Program.lean ====
/-
  THE KERNEL'S FUNCTION, RESTATED. The printed function is one long list of copies and waits; here it is the five steps the
  kernel is made of — start a group's load, wait for it, start its eight row copies, wait for them — put together as the
  kernel puts them together, and that is the printed function (by unfolding). The offsets every copy and wait computes in
  32-bit integers are then shown, once for all trips of the loop, to be the plain numbers of `Geometry`.
-/
module

public import proofs.«01_k».proof.Proof.Rev.Geometry
public import Idealize.ShloMosaic.Lib.Scf

@[expose] public section

noncomputable section

namespace Cert.Rev

open Cert.KernelIdeal Cert.KernelIdeal.Gen
open Idealize.ShloMosaic Idealize.SL.Sem

variable {F : FTy → Type} [FloatOps F]

/-! ## The steps -/

/-- SparseCore `c`'s coordinates in the launch's grid. -/
def at_ (c : Fin (grid0.bound 0)) : grid0.Coords := fun | 0 => c | ⟨_ + 1, h⟩ => absurd h (Nat.not_lt.2 (Nat.le_add_left _ _))

/-- A program of SparseCore `c`'s sequencer. -/
abbrev SP (F : FTy → Type) (c : Fin (grid0.bound 0)) (α : Type) : Type 1 := Prog (TpuEff nD τ sig (Elt F) Λ₀ (.scScalar (c.castLE hcore0))) α

variable (c : Fin (grid0.bound 0))

/-- Start the copy of eight rows into a bank; wait for it. -/
def startIn (s : DmaSem sig) (x : Memref sig .scScalar .hbm S8x50176 .f32) (b : Memref sig .scScalar .shared S8x50176 .f32) : SP F c PUnit :=
  Prog.lift (.enqueueDma x (.here b) (.dma s) (View.wordExact_bits rfl) (View.wordExact_bits rfl) ⟨Or.inl rfl, trivial⟩)
def waitIn (s : DmaSem sig) (x : Memref sig .scScalar .hbm S8x50176 .f32) (b : Memref sig .scScalar .shared S8x50176 .f32) : SP F c PUnit :=
  Prog.lift (.waitDma2 s x b (View.wordExact_bits rfl) (View.wordExact_bits rfl))
/-- Start the copy of a bank's row into a row of the result; wait for one. -/
def startOut (s : DmaSem sig) (b : Memref sig .scScalar .shared S50176 .f32) (o : Memref sig .scScalar .hbm S50176 .f32) : SP F c PUnit :=
  Prog.lift (.enqueueDma b (.here o) (.dma s) (View.wordExact_bits rfl) (View.wordExact_bits rfl) ⟨Or.inl rfl, trivial⟩)
def waitOut (s : DmaSem sig) (b : Memref sig .scScalar .shared S50176 .f32) (o : Memref sig .scScalar .hbm S50176 .f32) : SP F c PUnit :=
  Prog.lift (.waitDma2 s b o (View.wordExact_bits rfl) (View.wordExact_bits rfl))
/-- Start eight row copies on one cell; wait for eight. -/
def startOuts (s : DmaSem sig) (b : Fin 8 → Memref sig .scScalar .shared S50176 .f32) (o : Fin 8 → Memref sig .scScalar .hbm S50176 .f32) : SP F c PUnit := do
  startOut c s (b 0) (o 0); startOut c s (b 1) (o 1); startOut c s (b 2) (o 2); startOut c s (b 3) (o 3)
  startOut c s (b 4) (o 4); startOut c s (b 5) (o 5); startOut c s (b 6) (o 6); startOut c s (b 7) (o 7)
def waitOuts (s : DmaSem sig) (b : Fin 8 → Memref sig .scScalar .shared S50176 .f32) (o : Fin 8 → Memref sig .scScalar .hbm S50176 .f32) : SP F c PUnit := do
  waitOut c s (b 0) (o 0); waitOut c s (b 1) (o 1); waitOut c s (b 2) (o 2); waitOut c s (b 3) (o 3)
  waitOut c s (b 4) (o 4); waitOut c s (b 5) (o 5); waitOut c s (b 6) (o 6); waitOut c s (b 7) (o 7)

/-! ## The printed function is these steps at the printed offsets -/

/-- The loop's region at trip `k`: wait for the group's load, start its row copies, and, where the printed conditions hold,
    wait for the group before and start the load three groups ahead. -/
def tripP (k : Fin k0_t1_loop.trips) : SP F c PUnit := do
  waitIn c (lAt (k0_off4 k) (k0_off4_inb k)) (xAt (k0_off6 (at_ c) k) (k0_off6_inb (at_ c) k)) (bAt (k0_off5 k) (k0_off5_inb k))
  startOuts c (sAt (k0_off4 k) (k0_off4_inb k)) ![rAt (k0_off8 k) (k0_off8_inb k), rAt (k0_off9 k) (k0_off9_inb k), rAt (k0_off10 k) (k0_off10_inb k), rAt (k0_off11 k) (k0_off11_inb k), rAt (k0_off12 k) (k0_off12_inb k), rAt (k0_off13 k) (k0_off13_inb k), rAt (k0_off14 k) (k0_off14_inb k), rAt (k0_off15 k) (k0_off15_inb k)]
    (fun t => oAt (k0_off7 (at_ c) k (BitVec.ofNat 32 t.val)) (k0_off7_inb (at_ c) k t))
  if h : k0_cond1 k = 1#1 then do
    waitOuts c (sAt (k0_off16 k) (k0_off16_inb k h)) ![rAt (k0_off18 k) (k0_off18_inb k h), rAt (k0_off19 k) (k0_off19_inb k h), rAt (k0_off20 k) (k0_off20_inb k h), rAt (k0_off21 k) (k0_off21_inb k h), rAt (k0_off22 k) (k0_off22_inb k h), rAt (k0_off23 k) (k0_off23_inb k h), rAt (k0_off24 k) (k0_off24_inb k h), rAt (k0_off25 k) (k0_off25_inb k h)]
      (fun t => oAt (k0_off17 (at_ c) k (BitVec.ofNat 32 t.val)) (k0_off17_inb (at_ c) k h t))
    pure ⟨⟩
  else do pure ⟨⟩
  if h : k0_cond2 k = 1#1 then do
    startIn c (lAt (k0_off26 k) (k0_off26_inb k h)) (xAt (k0_off28 (at_ c) k) (k0_off28_inb (at_ c) k h)) (bAt (k0_off27 k) (k0_off27_inb k h))
    pure ⟨⟩
  else do pure ⟨⟩
  pure ⟨⟩

/-- One of the three loads before the loop. -/
def preP (r : Fin 3) : SP F c PUnit :=
  startIn c (lAt (k0_off1 (k0_off1_at (r.castLE (by decide)))) (k0_off1_inb (r.castLE (by decide)))) (xAt (k0_off3 (at_ c) (BitVec.ofNat 32 (8 * r.val))) (k0_off3_inb (at_ c) r))
    (bAt (k0_off2 (BitVec.ofNat 32 r.val)) (k0_off2_inb r))

/-- The waits for one of the last four groups, after the loop. -/
def postP (r : Fin 4) : SP F c PUnit :=
  waitOuts c (sAt (k0_off1 (k0_off1_at (r.natAdd 3))) (k0_off1_inb (r.natAdd 3)))
    ![rAt (k0_off30 (BitVec.ofNat 32 (92 + r.val))) (k0_off30_inb r), rAt (k0_off31 (BitVec.ofNat 32 (92 + r.val))) (k0_off31_inb r), rAt (k0_off32 (BitVec.ofNat 32 (92 + r.val))) (k0_off32_inb r), rAt (k0_off33 (BitVec.ofNat 32 (92 + r.val))) (k0_off33_inb r), rAt (k0_off34 (BitVec.ofNat 32 (92 + r.val))) (k0_off34_inb r), rAt (k0_off35 (BitVec.ofNat 32 (92 + r.val))) (k0_off35_inb r), rAt (k0_off36 (BitVec.ofNat 32 (92 + r.val))) (k0_off36_inb r), rAt (k0_off37 (BitVec.ofNat 32 (92 + r.val))) (k0_off37_inb r)]
    (fun t => oAt (k0_off29 (at_ c) (BitVec.ofNat 32 (736 + 8 * r.val)) (BitVec.ofNat 32 t.val)) (k0_off29_inb (at_ c) r t))

set_option maxRecDepth 100000 in
set_option maxHeartbeats 4000000 in
/-- The printed function: three loads, the loop, four groups' waits (`v` the integers the printed text carries from one of
    its windows to the next, which nothing after them depends on). -/
theorem body_eq : ∃ v, cc0__reverse_rows (F := F) (at_ c) xW (Memref.isWhole_whole _) oW (Memref.isWhole_whole _) bW (Memref.isWhole_whole _) cc0_scratch1 cc0_scratch2
    = (do
        preP c 0; preP c 1; preP c 2
        let _ : Σ' (_ : BitVec 32), BitVec 32 ← (do
          Scf.Loop.for k0_t1_loop k0_t1_ok ⟨⟩ fun k _ => tripP c k
          pure v)
        postP c 0; postP c 1; postP c 2; postP c 3
        pure ⟨⟩) := ⟨_, rfl⟩

end Cert.Rev

end
-- ==== Proof.Rev.Numbers.lean ====
/-
  THE NUMBERS THE KERNEL COMPUTES. Core `c`'s group `g` is group `96 c + g` of the result, its eight rows; it is loaded from
  the mirrored group of the same 192-row block, into bank `g % 4`. Every offset of `Program`, computed in 32-bit integers, is
  one of these numbers, and the loop's two conditions are comparisons of the trip's number — each shown once over every core
  and trip.
-/
module

public import proofs.«01_k».proof.Proof.Rev.Program

@[expose] public section

noncomputable section

namespace Cert.Rev

open Cert.KernelIdeal Cert.KernelIdeal.Gen
open Idealize.ShloMosaic Idealize.SL.Sem

variable {F : FTy → Type} [FloatOps F]

/-- The bank of group `g`. -/
@[reducible] def slot (g : Nat) : Fin 4 := ⟨g % 4, Nat.mod_lt _ (by decide)⟩
/-- Group `g` of core `c`, among the result's 192 groups. -/
@[reducible] def hx (c : Fin (grid0.bound 0)) (g : Nat) : Fin 192 := ⟨(96 * c.val + g) % 192, Nat.mod_lt _ (by decide)⟩
/-- The group of the argument that holds group `h` of the result, last row first: its mirror in the block of 24 groups. -/
@[reducible] def mir (h : Fin 192) : Fin 192 := ⟨h.val / 24 * 24 + (23 - h.val % 24), by have := h.isLt; omega⟩
/-- Row `t` of group `h`. -/
@[reducible] def rowOf (h : Fin 192) (t : Fin 8) : Fin 1536 := ⟨8 * h.val + t.val, by have := h.isLt; have := t.isLt; omega⟩

/-- The load of group `g` of core `c` and the wait for it; its row copies and the waits for them. -/
def load (c : Fin (grid0.bound 0)) (g : Nat) : SP F c PUnit := startIn c (ld (slot g)) (grp (mir (hx c g))) (bank (slot g))
def loaded (c : Fin (grid0.bound 0)) (g : Nat) : SP F c PUnit := waitIn c (ld (slot g)) (grp (mir (hx c g))) (bank (slot g))
def store (c : Fin (grid0.bound 0)) (g : Nat) : SP F c PUnit := startOuts c (st (slot g)) (fun t => bankRow (slot g) t.rev) (fun t => row (rowOf (hx c g) t))
def stored (c : Fin (grid0.bound 0)) (g : Nat) : SP F c PUnit := waitOuts c (st (slot g)) (fun t => bankRow (slot g) t.rev) (fun t => row (rowOf (hx c g) t))

/-! ## The offsets -/

set_option maxRecDepth 100000

/-- In the loop, the wait for a load names the group's cell, bank and source, and the row copies start at its rows; -/
theorem n4 : ∀ k, k0_off4 k = ![(slot k.val).val] := by decide +kernel
theorem n5 : ∀ k, k0_off5 k = ![(slot k.val).val, 0, 0] := by decide +kernel
theorem n6 : ∀ c k, k0_off6 (at_ c) k = ![8 * (mir (hx c k.val)).val, 0] := by decide +kernel
theorem n7 : ∀ c k (t : Fin 8), k0_off7 (at_ c) k (BitVec.ofNat 32 t.val) = ![(rowOf (hx c k.val) t).val, 0] := by decide +kernel
/-- the two conditions of a trip say that a group is to be waited for, and that a group is to be loaded; -/
theorem c1 : ∀ k, k0_cond1 k = 1#1 ↔ 1 ≤ k.val ∧ k.val ≤ 92 := by decide +kernel
theorem c2 : ∀ k, k0_cond2 k = 1#1 ↔ k.val ≤ 92 := by decide +kernel

/-- the eight row copies of a trip read the bank's rows from the last to the first; -/
theorem n8 : ∀ k, k0_off8 k = ![(slot k.val).val, (Fin.rev (0 : Fin 8)).val, 0] := by decide +kernel
theorem n9 : ∀ k, k0_off9 k = ![(slot k.val).val, (Fin.rev (1 : Fin 8)).val, 0] := by decide +kernel
theorem n10 : ∀ k, k0_off10 k = ![(slot k.val).val, (Fin.rev (2 : Fin 8)).val, 0] := by decide +kernel
theorem n11 : ∀ k, k0_off11 k = ![(slot k.val).val, (Fin.rev (3 : Fin 8)).val, 0] := by decide +kernel
theorem n12 : ∀ k, k0_off12 k = ![(slot k.val).val, (Fin.rev (4 : Fin 8)).val, 0] := by decide +kernel
theorem n13 : ∀ k, k0_off13 k = ![(slot k.val).val, (Fin.rev (5 : Fin 8)).val, 0] := by decide +kernel
theorem n14 : ∀ k, k0_off14 k = ![(slot k.val).val, (Fin.rev (6 : Fin 8)).val, 0] := by decide +kernel
theorem n15 : ∀ k, k0_off15 k = ![(slot k.val).val, (Fin.rev (7 : Fin 8)).val, 0] := by decide +kernel
/-- the waits for row copies name the group before: its cell, its rows, its bank's rows; -/
theorem n16 : ∀ k, 1 ≤ k.val → k0_off16 k = ![(slot (k.val - 1)).val] := by decide +kernel
theorem n17 : ∀ c k (t : Fin 8), 1 ≤ k.val → k0_off17 (at_ c) k (BitVec.ofNat 32 t.val) = ![(rowOf (hx c (k.val - 1)) t).val, 0] := by decide +kernel
theorem n18 : ∀ k, 1 ≤ k.val → k0_off18 k = ![(slot (k.val - 1)).val, (Fin.rev (0 : Fin 8)).val, 0] := by decide +kernel
theorem n19 : ∀ k, 1 ≤ k.val → k0_off19 k = ![(slot (k.val - 1)).val, (Fin.rev (1 : Fin 8)).val, 0] := by decide +kernel
theorem n20 : ∀ k, 1 ≤ k.val → k0_off20 k = ![(slot (k.val - 1)).val, (Fin.rev (2 : Fin 8)).val, 0] := by decide +kernel
theorem n21 : ∀ k, 1 ≤ k.val → k0_off21 k = ![(slot (k.val - 1)).val, (Fin.rev (3 : Fin 8)).val, 0] := by decide +kernel
theorem n22 : ∀ k, 1 ≤ k.val → k0_off22 k = ![(slot (k.val - 1)).val, (Fin.rev (4 : Fin 8)).val, 0] := by decide +kernel
theorem n23 : ∀ k, 1 ≤ k.val → k0_off23 k = ![(slot (k.val - 1)).val, (Fin.rev (5 : Fin 8)).val, 0] := by decide +kernel
theorem n24 : ∀ k, 1 ≤ k.val → k0_off24 k = ![(slot (k.val - 1)).val, (Fin.rev (6 : Fin 8)).val, 0] := by decide +kernel
theorem n25 : ∀ k, 1 ≤ k.val → k0_off25 k = ![(slot (k.val - 1)).val, (Fin.rev (7 : Fin 8)).val, 0] := by decide +kernel
/-- the load that a trip starts is that of the group three on; -/
theorem n26 : ∀ k, k.val ≤ 92 → k0_off26 k = ![(slot (k.val + 3)).val] := by decide +kernel
theorem n27 : ∀ k, k.val ≤ 92 → k0_off27 k = ![(slot (k.val + 3)).val, 0, 0] := by decide +kernel
theorem n28 : ∀ c k, k.val ≤ 92 → k0_off28 (at_ c) k = ![8 * (mir (hx c (k.val + 3))).val, 0] := by decide +kernel
/-- before the loop, the loads are those of groups 0, 1 and 2; -/
theorem n1 : ∀ r : Fin 3, k0_off1 (k0_off1_at (r.castLE (by decide))) = ![(slot r.val).val] := by decide +kernel
theorem n2 : ∀ r : Fin 3, k0_off2 (BitVec.ofNat 32 r.val) = ![(slot r.val).val, 0, 0] := by decide +kernel
theorem n3 : ∀ c (r : Fin 3), k0_off3 (at_ c) (BitVec.ofNat 32 (8 * r.val)) = ![8 * (mir (hx c r.val)).val, 0] := by decide +kernel
/-- after the loop, the waits are those for groups 92 to 95: their cells, rows and banks' rows. -/
theorem n1' : ∀ r : Fin 4, k0_off1 (k0_off1_at (r.natAdd 3)) = ![(slot (92 + r.val)).val] := by decide +kernel
theorem n29 : ∀ c (r : Fin 4) (t : Fin 8), k0_off29 (at_ c) (BitVec.ofNat 32 (736 + 8 * r.val)) (BitVec.ofNat 32 t.val) = ![(rowOf (hx c (92 + r.val)) t).val, 0] := by decide +kernel
theorem n30 : ∀ r : Fin 4, k0_off30 (BitVec.ofNat 32 (92 + r.val)) = ![(slot (92 + r.val)).val, (Fin.rev (0 : Fin 8)).val, 0] := by decide +kernel
theorem n31 : ∀ r : Fin 4, k0_off31 (BitVec.ofNat 32 (92 + r.val)) = ![(slot (92 + r.val)).val, (Fin.rev (1 : Fin 8)).val, 0] := by decide +kernel
theorem n32 : ∀ r : Fin 4, k0_off32 (BitVec.ofNat 32 (92 + r.val)) = ![(slot (92 + r.val)).val, (Fin.rev (2 : Fin 8)).val, 0] := by decide +kernel
theorem n33 : ∀ r : Fin 4, k0_off33 (BitVec.ofNat 32 (92 + r.val)) = ![(slot (92 + r.val)).val, (Fin.rev (3 : Fin 8)).val, 0] := by decide +kernel
theorem n34 : ∀ r : Fin 4, k0_off34 (BitVec.ofNat 32 (92 + r.val)) = ![(slot (92 + r.val)).val, (Fin.rev (4 : Fin 8)).val, 0] := by decide +kernel
theorem n35 : ∀ r : Fin 4, k0_off35 (BitVec.ofNat 32 (92 + r.val)) = ![(slot (92 + r.val)).val, (Fin.rev (5 : Fin 8)).val, 0] := by decide +kernel
theorem n36 : ∀ r : Fin 4, k0_off36 (BitVec.ofNat 32 (92 + r.val)) = ![(slot (92 + r.val)).val, (Fin.rev (6 : Fin 8)).val, 0] := by decide +kernel
theorem n37 : ∀ r : Fin 4, k0_off37 (BitVec.ofNat 32 (92 + r.val)) = ![(slot (92 + r.val)).val, (Fin.rev (7 : Fin 8)).val, 0] := by decide +kernel

/-! ## The steps at those numbers -/

/-- The printed loads before the loop are the loads of groups 0, 1 and 2. -/
theorem preP_eq (c : Fin (grid0.bound 0)) (r : Fin 3) : preP (F := F) c r = load c r.val := by
  unfold preP load
  rw [lAt_congr (n1 r) _ (cell_inb _), xAt_congr (n3 c r) _ (grp_inb _), bAt_congr (n2 r) _ (bank_inb _)]
  rfl

/-- The printed waits after the loop are those for groups 92 to 95. -/
theorem postP_eq (c : Fin (grid0.bound 0)) (r : Fin 4) : postP (F := F) c r = stored c (92 + r.val) := by
  unfold postP stored
  rw [sAt_congr (n1' r) _ (cell_inb _)]
  refine congrArg₂ (waitOuts c _) (funext fun t => ?_) (funext fun t => oAt_congr (n29 c r t) _ _)
  fin_cases t
  · exact rAt_congr (n30 r) _ _
  · exact rAt_congr (n31 r) _ _
  · exact rAt_congr (n32 r) _ _
  · exact rAt_congr (n33 r) _ _
  · exact rAt_congr (n34 r) _ _
  · exact rAt_congr (n35 r) _ _
  · exact rAt_congr (n36 r) _ _
  · exact rAt_congr (n37 r) _ _

/-- A trip: wait for group `k`'s load and start its row copies; wait for the copies of group `k - 1`; start the load of
    group `k + 3`. -/
def trip (c : Fin (grid0.bound 0)) (k : Fin k0_t1_loop.trips) : SP F c PUnit := do
  loaded c k.val
  store c k.val
  if 1 ≤ k.val ∧ k.val ≤ 92 then do stored c (k.val - 1); pure ⟨⟩ else do pure ⟨⟩
  if k.val ≤ 92 then do load c (k.val + 3); pure ⟨⟩ else do pure ⟨⟩
  pure ⟨⟩

/-- The printed trip is the trip by group numbers. -/
theorem tripP_eq (c : Fin (grid0.bound 0)) (k : Fin k0_t1_loop.trips) : tripP (F := F) c k = trip c k := by
  unfold tripP trip
  have h1 : waitIn (F := F) c (lAt (k0_off4 k) (k0_off4_inb k)) (xAt (k0_off6 (at_ c) k) (k0_off6_inb (at_ c) k)) (bAt (k0_off5 k) (k0_off5_inb k)) = loaded c k.val := by
    unfold loaded
    rw [lAt_congr (n4 k) _ (cell_inb _), xAt_congr (n6 c k) _ (grp_inb _), bAt_congr (n5 k) _ (bank_inb _)]
    rfl
  rw [h1]
  refine congrArg _ (funext fun _ => ?_)
  refine congrArg₂ _ ?_ (funext fun _ => ?_)
  · unfold store
    rw [sAt_congr (n4 k) _ (cell_inb _)]
    refine congrArg₂ (startOuts c _) (funext fun t => ?_) (funext fun t => oAt_congr (n7 c k t) _ _)
    fin_cases t
    · exact rAt_congr (n8 k) _ _
    · exact rAt_congr (n9 k) _ _
    · exact rAt_congr (n10 k) _ _
    · exact rAt_congr (n11 k) _ _
    · exact rAt_congr (n12 k) _ _
    · exact rAt_congr (n13 k) _ _
    · exact rAt_congr (n14 k) _ _
    · exact rAt_congr (n15 k) _ _
  have h2 : ∀ hk : 1 ≤ k.val ∧ k.val ≤ 92, waitOuts (F := F) c (sAt (k0_off16 k) (k0_off16_inb k ((c1 k).2 hk)))
      ![rAt (k0_off18 k) (k0_off18_inb k ((c1 k).2 hk)), rAt (k0_off19 k) (k0_off19_inb k ((c1 k).2 hk)), rAt (k0_off20 k) (k0_off20_inb k ((c1 k).2 hk)), rAt (k0_off21 k) (k0_off21_inb k ((c1 k).2 hk)),
        rAt (k0_off22 k) (k0_off22_inb k ((c1 k).2 hk)), rAt (k0_off23 k) (k0_off23_inb k ((c1 k).2 hk)), rAt (k0_off24 k) (k0_off24_inb k ((c1 k).2 hk)), rAt (k0_off25 k) (k0_off25_inb k ((c1 k).2 hk))]
      (fun t => oAt (k0_off17 (at_ c) k (BitVec.ofNat 32 t.val)) (k0_off17_inb (at_ c) k ((c1 k).2 hk) t)) = stored c (k.val - 1) := fun hk => by
    unfold stored
    rw [sAt_congr (n16 k hk.1) _ (cell_inb _)]
    refine congrArg₂ (waitOuts c _) (funext fun t => ?_) (funext fun t => oAt_congr (n17 c k t hk.1) _ _)
    fin_cases t
    · exact rAt_congr (n18 k hk.1) _ _
    · exact rAt_congr (n19 k hk.1) _ _
    · exact rAt_congr (n20 k hk.1) _ _
    · exact rAt_congr (n21 k hk.1) _ _
    · exact rAt_congr (n22 k hk.1) _ _
    · exact rAt_congr (n23 k hk.1) _ _
    · exact rAt_congr (n24 k hk.1) _ _
    · exact rAt_congr (n25 k hk.1) _ _
  have h3 : ∀ hk : k.val ≤ 92, startIn (F := F) c (lAt (k0_off26 k) (k0_off26_inb k ((c2 k).2 hk))) (xAt (k0_off28 (at_ c) k) (k0_off28_inb (at_ c) k ((c2 k).2 hk)))
      (bAt (k0_off27 k) (k0_off27_inb k ((c2 k).2 hk))) = load c (k.val + 3) := fun hk => by
    unfold load
    rw [lAt_congr (n26 k hk) _ (cell_inb _), xAt_congr (n28 c k hk) _ (grp_inb _), bAt_congr (n27 k hk) _ (bank_inb _)]
    rfl
  by_cases hk : 1 ≤ k.val ∧ k.val ≤ 92
  · rw [dif_pos ((c1 k).2 hk), if_pos hk, h2 hk]
    refine congrArg _ (funext fun _ => ?_)
    rw [dif_pos ((c2 k).2 hk.2), if_pos hk.2, h3 hk.2]
  · rw [dif_neg (fun h => hk ((c1 k).1 h)), if_neg hk]
    by_cases hk' : k.val ≤ 92
    · rw [dif_pos ((c2 k).2 hk'), if_pos hk', h3 hk']
    · rw [dif_neg (fun h => hk' ((c2 k).1 h)), if_neg hk']

/-- The function of SparseCore `c`'s sequencer: load three groups, run the loop, wait for the last four groups. -/
def steps (c : Fin (grid0.bound 0)) (v : Σ' (_ : BitVec 32), BitVec 32) : SP F c PUnit := do
  load c 0; load c 1; load c 2
  let _ : Σ' (_ : BitVec 32), BitVec 32 ← (do
    Scf.Loop.for k0_t1_loop k0_t1_ok ⟨⟩ fun k _ => trip c k
    pure v)
  stored c 92; stored c 93; stored c 94; stored c 95
  pure ⟨⟩

/-- The printed body is the steps by group numbers. -/
theorem body_steps (c : Fin (grid0.bound 0)) : ∃ v, cc0__reverse_rows (F := F) (at_ c) xW (Memref.isWhole_whole _) oW (Memref.isWhole_whole _) bW (Memref.isWhole_whole _) cc0_scratch1 cc0_scratch2
    = steps c v := by
  obtain ⟨v, h⟩ := body_eq (F := F) c
  refine ⟨v, h.trans ?_⟩
  simp only [preP_eq, postP_eq, tripP_eq]
  rfl

end Cert.Rev

end
-- ==== Proof.Rev.Values.lean ====
/-
  WHAT THE COPIES LEAVE. A group's load fills a bank with the group's eight rows; a row copy leaves in a row of the result
  the bank's row opposite it. So, from the argument's rows `A`, every row of the result is `A`'s row mirrored in its block of
  192 rows: `rev A`.
-/
module

public import proofs.«01_k».proof.Proof.Rev.Numbers

@[expose] public section

noncomputable section

namespace Cert.Rev

open Cert.KernelIdeal Cert.KernelIdeal.Gen
open Idealize.ShloMosaic Idealize.ShloMosaic.ValueIdx

variable {F : FTy → Type}

/-- A matrix of 1536 rows; the banks' contents. -/
abbrev Rows (F : FTy → Type) : Type := S1536x50176.Idx → Elt F .f32
abbrev Banks (F : FTy → Type) : Type := S4x8x50176.Idx → Elt F .f32

/-- The mirror of row `r` in its block of 192. -/
@[reducible] def mirRow (r : Fin 1536) : Fin 1536 := ⟨r.val / 192 * 192 + (191 - r.val % 192), by have := r.isLt; omega⟩

/-- Every row's mirror. -/
def rev (A : Rows F) : Rows F := fun i => A (ix2 (mirRow (i 0)) (i 1))

/-- Group `h` of `A`'s rows, in any bank. -/
def inBank (A : Rows F) (h : Fin 192) : Banks F := fun i => A (ix2 (rowOf h (i 1)) (i 2))

/-- A load leaves the group's rows in the bank. -/
theorem load_value (A : Rows F) (f : Banks F) (j : Fin 4) (h : Fin 192) :
    ∀ i ∈ bankSet j, (bank j).view.write (Elt F) f ((ReadAs.same : ReadAs (Elt F) _ _ _ _).apply ((grp h).view.read (Elt F) A)) Finset.univ i = inBank A h i := by
  intro i hi
  rw [← bank_set] at hi
  obtain ⟨y, -, rfl⟩ := Finset.mem_map.mp hi
  refine (View.write_emb_of_mem _ _ (Finset.mem_univ y)).trans ?_
  show A ((grp h).view.emb y) = inBank A h ((bank j).view.emb y)
  rw [grp_emb, bank_emb]
  rfl

/-- The mirror of row `t` of group `h` is the row opposite it in the mirrored group. -/
theorem mirRow_rowOf (h : Fin 192) (t : Fin 8) : mirRow (rowOf h t) = rowOf (mir h) t.rev := by
  have := h.isLt; have := t.isLt
  refine Fin.ext ?_
  show (8 * h.val + t.val) / 192 * 192 + (191 - (8 * h.val + t.val) % 192) = 8 * (h.val / 24 * 24 + (23 - h.val % 24)) + (8 - (t.val + 1))
  omega

/-- A row copy leaves the argument's mirrored row in the result's row. -/
theorem store_value (A f : Rows F) (j : Fin 4) (h : Fin 192) (t : Fin 8) :
    ∀ i ∈ rowSet (rowOf h t), (row (rowOf h t)).view.write (Elt F) f ((ReadAs.same : ReadAs (Elt F) _ _ _ _).apply ((bankRow j t.rev).view.read (Elt F) (inBank A (mir h)))) Finset.univ i
      = rev A i := by
  intro i hi
  rw [← row_set] at hi
  obtain ⟨y, -, rfl⟩ := Finset.mem_map.mp hi
  refine (View.write_emb_of_mem _ _ (Finset.mem_univ y)).trans ?_
  show inBank A (mir h) ((bankRow j t.rev).view.emb y) = rev A ((row (rowOf h t)).view.emb y)
  rw [bankRow_emb, row_emb]
  show A (ix2 (rowOf (mir h) t.rev) (y 0)) = A (ix2 (mirRow (rowOf h t)) (y 0))
  rw [mirRow_rowOf]

end Cert.Rev

end
-- ==== Proof.Rev.Steps.lean ====
/-
  THE STEPS, PROVED. A group of rows is, at any moment, in one of four states: untouched, its load in flight into its bank,
  its eight row copies in flight out of that bank on one cell, or done. Each of the kernel's steps takes one group from a
  state to the next: a load needs its bank and the bank's two cells at rest, and the last wait for its row copies gives them
  back.
-/
module

public import proofs.«01_k».proof.Proof.Rev.Values
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch

@[expose] public section

noncomputable section

namespace Cert.Rev

open Cert.KernelIdeal Cert.KernelIdeal.Gen
open Idealize.ShloMosaic
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the resources as the launch theorem sees them -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the copies' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## What the sequencer holds -/

variable (d : Dev nD)

/-- The argument's rows, the result's rows (the TensorCore's arrays), and SparseCore `c`'s banks. -/
abbrev xLoc : Loc nD τ sig := (SparseCore.T d).loc main_v0
abbrev oLoc : Loc nD τ sig := (SparseCore.T d).loc main_v1
abbrev thr (c : Fin (grid0.bound 0)) : Thread nD τ := S d (c.castLE hcore0)
abbrev bLoc (c : Fin (grid0.bound 0)) : Loc nD τ sig := (thr d c).loc cc0_scratch0

/-- Group `h` of the argument at `A`; row `r` of the result at `f`; a bank, and a bank's row, at `f`. -/
abbrev xP (A : Rows F) (h : Fin 192) : sProp 𝕄 := xLoc d ↦[grpSet h]{fullShare} A
abbrev oP (f : Rows F) (r : Fin 1536) : sProp 𝕄 := oLoc d ↦[rowSet r]{fullShare} f
abbrev bP (c : Fin (grid0.bound 0)) (f : Banks F) (j : Fin 4) : sProp 𝕄 := bLoc d c ↦[bankSet j]{fullShare} f
abbrev brP (c : Fin (grid0.bound 0)) (f : Banks F) (j : Fin 4) (t : Fin 8) : sProp 𝕄 := bLoc d c ↦[bankRowSet j t]{fullShare} f
/-- A bank's load cell and store cell at zero. -/
abbrev lS (c : Fin (grid0.bound 0)) (j : Fin 4) : sProp 𝕄 := semVal (thr d c, .dma (ld j)) 0
abbrev sS (c : Fin (grid0.bound 0)) (j : Fin 4) : sProp 𝕄 := semVal (thr d c, .dma (st j)) 0

/-- The same elements, as the sequencer's pieces address them. -/
theorem pts_grp (c : Fin (grid0.bound 0)) (A : Rows F) (h : Fin 192) :
    ((grp h).view.loc (thr d c) ↦[(grp h).view.set]{fullShare} A : sProp 𝕄) = xP d A h := by rw [grp_set]; rfl
theorem pts_row (c : Fin (grid0.bound 0)) (f : Rows F) (r : Fin 1536) :
    ((row r).view.loc (thr d c) ↦[rowSet r]{fullShare} f : sProp 𝕄) = oP d f r := rfl
theorem pts_bank (c : Fin (grid0.bound 0)) (f : Banks F) (j : Fin 4) :
    ((bank j).view.loc (thr d c) ↦[bankSet j]{fullShare} f : sProp 𝕄) = bP d c f j := rfl
theorem pts_bankRow (c : Fin (grid0.bound 0)) (f : Banks F) (j : Fin 4) (t : Fin 8) :
    ((bankRow j t).view.loc (thr d c) ↦[(bankRow j t).view.set]{fullShare} f : sProp 𝕄) = brP d c f j t := by rw [bankRow_set]; rfl

/-- What a load delivers in its bank, and a row copy in the result's row. -/
theorem got_bank (c : Fin (grid0.bound 0)) (A : Rows F) (f : Banks F) (j : Fin 4) (h : Fin 192) :
    ((bank j).view.loc (thr d c) ↦[bankSet j]{fullShare} (bank j).view.write (Elt F) f ((ReadAs.same : ReadAs (Elt F) _ _ _ _).apply ((grp h).view.read (Elt F) A)) Finset.univ : sProp 𝕄)
      = bP d c (inBank A h) j := pointsTo_congr (load_value A f j h)
theorem got_row (c : Fin (grid0.bound 0)) (A f : Rows F) (j : Fin 4) (h : Fin 192) (t : Fin 8) :
    ((row (rowOf h t)).view.loc (thr d c) ↦[rowSet (rowOf h t)]{fullShare}
        (row (rowOf h t)).view.write (Elt F) f ((ReadAs.same : ReadAs (Elt F) _ _ _ _).apply ((bankRow j t.rev).view.read (Elt F) (inBank A (mir h)))) Finset.univ : sProp 𝕄)
      = oP d (rev A) (rowOf h t) := pointsTo_congr (store_value A f j h t)

/-- What a load credits, and what a row copy credits. -/
def nLd : Nat := (bank 0).view.dmaCredit
def nSt : Nat := (row 0).view.dmaCredit
theorem nLd_eq (j : Fin 4) : (bank j).view.dmaCredit = nLd := rfl
theorem nSt_eq (r : Fin 1536) : (row r).view.dmaCredit = nSt := rfl
theorem nLd_pos : 0 < nLd := View.dmaCredit_pos _ (by decide)
theorem nSt_pos : 0 < nSt := View.dmaCredit_pos _ (by decide)

variable (c : Fin (grid0.bound 0)) (A f₀ : Rows F)

/-- The eight rows of group `g` of the result, at `f`. -/
def outs (f : Rows F) (g : Nat) : sProp 𝕄 := bigSep Finset.univ fun t : Fin 8 => oP d f (rowOf (hx c g) t)

/-- A bank at rest: at some contents, its two cells at zero. -/
def Free (j : Fin 4) : sProp 𝕄 := iprop((∃ f, bP d c f j) ∗ lS d c j ∗ sS d c j)

/-- Group `g` untouched; -/
def Pend (g : Nat) : sProp 𝕄 := iprop(xP d A (mir (hx c g)) ∗ outs d c f₀ g)
/-- its load in flight, to deliver its rows in its bank and the argument's group back; -/
def Inn (g : Nat) : sProp 𝕄 :=
  iprop(Transfers.Flight (EC (F := F)) (thr d c) (.dma (ld (slot g))) none nLd iprop(bP d c (inBank A (mir (hx c g))) (slot g) ∗ xP d A (mir (hx c g)))
    ∗ outs d c f₀ g ∗ sS d c (slot g))
/-- What row copy `t` of group `g` delivers: the result's row, mirrored from the argument, and the bank's row back. -/
def Del (g : Nat) (t : Fin 8) : sProp 𝕄 := iprop(oP d (rev A) (rowOf (hx c g) t) ∗ brP d c (inBank A (mir (hx c g))) (slot g) t.rev)
/-- its eight row copies in flight; -/
def Outt (g : Nat) : sProp 𝕄 :=
  iprop(Transfers.Batch (EC (F := F)) (thr d c) (.dma (st (slot g))) none nSt (Del d c A g) 8 0 ∗ xP d A (mir (hx c g)) ∗ lS d c (slot g))
/-- and done. -/
def Done (g : Nat) : sProp 𝕄 := iprop(xP d A (mir (hx c g)) ∗ outs d c (rev A) g)

instance (g : Nat) (t : Fin 8) : Storable (upEmb : UEmb _ 𝕄) (Del d c A g t) := by unfold Del; infer_instance

variable [FloatOps F]

/-- A load starts. -/
theorem wp_load (g : Nat) : iprop(Pend d c A f₀ g ∗ Free d c (slot g)) ⊢ wp frame (wpE (defs₀ (F := F)) 𝒱₀ (thr d c) none) Set.univ (load c g) fun _ => Inn d c A f₀ g := by
  unfold load startIn Pend Free Inn Prog.lift
  iintro ⟨⟨Hx, Ho⟩, ⟨%f, Hb⟩, Hl, Hs⟩
  iapply (Transfers.wp_dmaLocal (EC (F := F)) 𝒱₀ (thr d c) none (src := grp (mir (hx c g))) (dst := bank (slot g)) (q := fullShare) (fs := A) (Sd := bankSet (slot g)) (fd := f) none nLd rfl nLd_pos (bank_set _).subset) $$ [Hx Hb Hl]
  · isplitl [Hx]; · iapply (Entails.of_eq (pts_grp d c A _).symm); iexact Hx
    isplitl [Hb]; · iexact Hb
    iexact Hl
  iintro HF
  rw [wp_ret]; imodintro
  isplitl [HF]
  · iapply (Transfers.Flight_mono (EC (F := F)) (thr d c) (Laws.sep_mono (Entails.of_eq (got_bank d c A f (slot g) (mir (hx c g)))) (Entails.of_eq (pts_grp d c A (mir (hx c g)))))) $$ HF
  isplitl [Ho]; · iexact Ho
  iexact Hs

/-- A core waiting: what it owes, its waits admissible. -/
def Ow (O : CellTallies nD τ sig (HIx 1)) : sProp 𝕄 := iprop(Transfers.MayWaits (thr d c) (none : HIx 1) O ∗ ∃ W, owes (thr d c) O W)

/-- One row copy starts: the `t`-th of its batch. -/
theorem wp_startOut (g : Nat) (t : Fin 8) (Q : PUnit → sProp 𝕄) :
    iprop(oP d f₀ (rowOf (hx c g) t) ∗ brP d c (inBank A (mir (hx c g))) (slot g) t.rev
        ∗ Transfers.Batch (EC (F := F)) (thr d c) (.dma (st (slot g))) none nSt (Del d c A g) t.val 0)
      ⊢ iprop((Transfers.Batch (EC (F := F)) (thr d c) (.dma (st (slot g))) none nSt (Del d c A g) (t.val + 1) 0 -∗ Q ⟨⟩)
          -∗ wp frame (wpE (defs₀ (F := F)) 𝒱₀ (thr d c) none) Set.univ (startOut c (st (slot g)) (bankRow (slot g) t.rev) (row (rowOf (hx c g) t))) Q) := by
  unfold startOut Prog.lift
  iintro ⟨Ho, Hb, HB⟩ Hk
  iapply (Transfers.wp_dmaBatch (EC (F := F)) 𝒱₀ (thr d c) none (src := bankRow (slot g) t.rev) (dst := row (rowOf (hx c g) t)) (q := fullShare) (fs := inBank A (mir (hx c g)))
    (Sd := rowSet (rowOf (hx c g) t)) (fd := f₀) (D := Del d c A g) (u := 0) none nSt rfl (row_set _).subset t.isLt (Nat.zero_le _)
    (Laws.sep_mono (Entails.of_eq (got_row d c A f₀ (slot g) (hx c g) t)) (Entails.of_eq (pts_bankRow d c (inBank A (mir (hx c g))) (slot g) t.rev)))) $$ [Ho Hb HB]
  · isplitl [Hb]; · iapply (Entails.of_eq (pts_bankRow d c (inBank A (mir (hx c g))) (slot g) t.rev).symm); iexact Hb
    isplitl [Ho]; · iexact Ho
    iexact HB
  iintro HB
  rw [wp_ret]; imodintro
  iapply Hk; iexact HB

/-- A wait for one row copy that is not the batch's last, -/
theorem wp_waitOut (g : Nat) (t : Fin 8) (ht : t.val < 7) (O : CellTallies nD τ sig (HIx 1)) (Q : PUnit → sProp 𝕄) :
    iprop(Transfers.Batch (EC (F := F)) (thr d c) (.dma (st (slot g))) none nSt (Del d c A g) 8 (t.val * nSt) ∗ Ow d c O)
      ⊢ iprop((iprop(Transfers.Batch (EC (F := F)) (thr d c) (.dma (st (slot g))) none nSt (Del d c A g) 8 ((t.val + 1) * nSt) ∗ Ow d c O) -∗ Q ⟨⟩)
          -∗ wp frame (wpE (defs₀ (F := F)) 𝒱₀ (thr d c) none) Set.univ (waitOut c (st (slot g)) (bankRow (slot g) t.rev) (row (rowOf (hx c g) t))) Q) := by
  have hu : t.val * nSt + nSt < nSt * 8 := by
    have h1 : (t.val + 1) * nSt ≤ 7 * nSt := Nat.mul_le_mul_right _ ht
    have h2 := nSt_pos
    rw [Nat.add_mul] at h1; omega
  rw [Nat.add_mul, Nat.one_mul]
  unfold Ow waitOut Prog.lift
  iintro ⟨HB, #Hmw, %W, HO⟩ Hk
  iapply (Transfers.wp_waitBatchO (EC (F := F)) 𝒱₀ (thr d c) none (srcw := bankRow (slot g) t.rev) (dstw := row (rowOf (hx c g) t)) (D := Del d c A g) none (nSt_eq _) hu) $$ [HB HO]
  · isplitl [HB]; · iexact HB
    isplitl [HO]; · iexact HO
    iapply (Transfers.MayWaits.elim (.dma (st (slot g)))) $$ Hmw
  iintro ⟨HB, HO⟩
  rw [wp_ret]; imodintro
  iapply Hk
  isplitl [HB]; · iexact HB
  isplitr; · iexact Hmw
  iexists _; iexact HO

/-- and the last: every row copy has landed, and the cell is at rest. -/
theorem wp_waitOutLast (g : Nat) (O : CellTallies nD τ sig (HIx 1)) :
    iprop(Transfers.Batch (EC (F := F)) (thr d c) (.dma (st (slot g))) none nSt (Del d c A g) 8 (7 * nSt) ∗ Ow d c O)
      ⊢ wp frame (wpE (defs₀ (F := F)) 𝒱₀ (thr d c) none) Set.univ (waitOut c (st (slot g)) (bankRow (slot g) (Fin.rev 7)) (row (rowOf (hx c g) 7))) fun _ =>
          iprop(bigSep Finset.univ (Del d c A g) ∗ sS d c (slot g) ∗ Ow d c O) := by
  unfold Ow waitOut Prog.lift
  iintro ⟨HB, #Hmw, %W, HO⟩
  iapply (Transfers.wp_waitBatchLastO (EC (F := F)) 𝒱₀ (thr d c) none (srcw := bankRow (slot g) (Fin.rev 7)) (dstw := row (rowOf (hx c g) 7)) (D := Del d c A g) none (nSt_eq _) nSt_pos
    (show 7 * nSt + nSt = nSt * 8 by omega)) $$ [HB HO]
  · isplitl [HB]; · iexact HB
    isplitl [HO]; · iexact HO
    iapply (Transfers.MayWaits.elim (.dma (st (slot g)))) $$ Hmw
  iintro ⟨HD, HS, HO⟩
  rw [wp_ret]; imodintro
  isplitl [HD]; · iexact HD
  isplitl [HS]; · iexact HS
  isplitr; · iexact Hmw
  iexists _; iexact HO

omit [FloatOps F] in
/-- Eight conjuncts, one by one; a bank is its eight rows, last first. -/
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
omit [FloatOps F] in
theorem bank_rows (f : Banks F) (j : Fin 4) : (bP d c f j : sProp 𝕄) = bigSep Finset.univ fun t : Fin 8 => brP d c f j t.rev := by
  unfold bP
  rw [← bankRow_cover j, pointsTo_biUnion _ _ (fun t _ t' _ h => bankRow_disjoint j t t' h)]
  conv_lhs => rw [show (Finset.univ : Finset (Fin 8)) = Finset.univ.image Fin.rev by decide]
  rw [SparseCore.bigSep_image_of_injOn (fun a _ b _ h => Fin.rev_injective h)]

/-- Between its load and its row copies a group's rows are in its bank, both cells at rest. -/
def Held (g : Nat) : sProp 𝕄 := iprop((bP d c (inBank A (mir (hx c g))) (slot g) ∗ xP d A (mir (hx c g))) ∗ outs d c f₀ g ∗ lS d c (slot g) ∗ sS d c (slot g))

/-- The wait for a load. -/
theorem wp_loaded (g : Nat) (O : CellTallies nD τ sig (HIx 1)) :
    iprop(Inn d c A f₀ g ∗ Ow d c O) ⊢ wp frame (wpE (defs₀ (F := F)) 𝒱₀ (thr d c) none) Set.univ (loaded c g) fun _ => iprop(Held d c A f₀ g ∗ Ow d c O) := by
  unfold loaded waitIn Inn Held Ow Prog.lift
  iintro ⟨⟨HF, Ho, Hs⟩, #Hmw, %W, HO⟩
  iapply (Transfers.wp_waitLocalO (EC (F := F)) 𝒱₀ (thr d c) none (srcw := grp (mir (hx c g))) (dstw := bank (slot g)) none (nLd_eq _)) $$ [HF HO]
  · isplitl [HF]; · iexact HF
    isplitl [HO]; · iexact HO
    iapply (Transfers.MayWaits.elim (.dma (ld (slot g)))) $$ Hmw
  iintro ⟨HD, Hl, HO⟩
  rw [wp_ret]; imodintro
  isplitl [HD Ho Hl Hs]
  · isplitl [HD]; · iexact HD
    isplitl [Ho]; · iexact Ho
    isplitl [Hl]; · iexact Hl
    iexact Hs
  isplitr; · iexact Hmw
  iexists _; iexact HO

/-- The eight row copies start. -/
theorem wp_store (g : Nat) : Held d c A f₀ g ⊢ wp frame (wpE (defs₀ (F := F)) 𝒱₀ (thr d c) none) Set.univ (store c g) fun _ => Outt d c A g := by
  unfold Held Outt
  rw [bank_rows, bigSep8]
  unfold outs
  rw [bigSep8]
  iintro ⟨⟨⟨B0, B1, B2, B3, B4, B5, B6, B7⟩, Hx⟩, ⟨O0, O1, O2, O3, O4, O5, O6, O7⟩, Hl, Hs⟩
  imod (Transfers.batch_alloc' (EC (F := F)) (thr d c) none nSt (Del d c A g)) $$ Hs with HB
  unfold store startOuts
  simp only [wp_bind]
  iapply (wp_startOut d c A f₀ g 0 _) $$ [O0 B0 HB]
  · isplitl [O0]; · iexact O0
    isplitl [B0]; · iexact B0
    iexact HB
  iintro HB
  iapply (wp_startOut d c A f₀ g 1 _) $$ [O1 B1 HB]
  · isplitl [O1]; · iexact O1
    isplitl [B1]; · iexact B1
    iexact HB
  iintro HB
  iapply (wp_startOut d c A f₀ g 2 _) $$ [O2 B2 HB]
  · isplitl [O2]; · iexact O2
    isplitl [B2]; · iexact B2
    iexact HB
  iintro HB
  iapply (wp_startOut d c A f₀ g 3 _) $$ [O3 B3 HB]
  · isplitl [O3]; · iexact O3
    isplitl [B3]; · iexact B3
    iexact HB
  iintro HB
  iapply (wp_startOut d c A f₀ g 4 _) $$ [O4 B4 HB]
  · isplitl [O4]; · iexact O4
    isplitl [B4]; · iexact B4
    iexact HB
  iintro HB
  iapply (wp_startOut d c A f₀ g 5 _) $$ [O5 B5 HB]
  · isplitl [O5]; · iexact O5
    isplitl [B5]; · iexact B5
    iexact HB
  iintro HB
  iapply (wp_startOut d c A f₀ g 6 _) $$ [O6 B6 HB]
  · isplitl [O6]; · iexact O6
    isplitl [B6]; · iexact B6
    iexact HB
  iintro HB
  iapply (wp_startOut d c A f₀ g 7 _) $$ [O7 B7 HB]
  · isplitl [O7]; · iexact O7
    isplitl [B7]; · iexact B7
    iexact HB
  iintro HB
  isplitl [HB]; · iexact HB
  isplitl [Hx]; · iexact Hx
  iexact Hl

/-- The waits for the eight row copies: the group is done, its bank at rest. -/
theorem wp_stored (g : Nat) (O : CellTallies nD τ sig (HIx 1)) :
    iprop(Outt d c A g ∗ Ow d c O) ⊢ wp frame (wpE (defs₀ (F := F)) 𝒱₀ (thr d c) none) Set.univ (stored c g) fun _ => iprop(Done d c A g ∗ Free d c (slot g) ∗ Ow d c O) := by
  unfold Outt Done Free outs
  iintro ⟨⟨HB, Hx, Hl⟩, HO⟩
  unfold stored waitOuts
  simp only [wp_bind]
  iapply (wp_waitOut d c A g 0 (by decide) O _) $$ [HB HO]
  · isplitl [HB]
    · iapply (Entails.of_eq (congrArg (Transfers.Batch (EC (F := F)) (thr d c) (.dma (st (slot g))) none nSt (Del d c A g) 8) (Nat.zero_mul nSt).symm)); iexact HB
    iexact HO
  iintro ⟨HB, HO⟩
  iapply (wp_waitOut d c A g 1 (by decide) O _) $$ [HB HO]
  · isplitl [HB]; · iexact HB
    iexact HO
  iintro ⟨HB, HO⟩
  iapply (wp_waitOut d c A g 2 (by decide) O _) $$ [HB HO]
  · isplitl [HB]; · iexact HB
    iexact HO
  iintro ⟨HB, HO⟩
  iapply (wp_waitOut d c A g 3 (by decide) O _) $$ [HB HO]
  · isplitl [HB]; · iexact HB
    iexact HO
  iintro ⟨HB, HO⟩
  iapply (wp_waitOut d c A g 4 (by decide) O _) $$ [HB HO]
  · isplitl [HB]; · iexact HB
    iexact HO
  iintro ⟨HB, HO⟩
  iapply (wp_waitOut d c A g 5 (by decide) O _) $$ [HB HO]
  · isplitl [HB]; · iexact HB
    iexact HO
  iintro ⟨HB, HO⟩
  iapply (wp_waitOut d c A g 6 (by decide) O _) $$ [HB HO]
  · isplitl [HB]; · iexact HB
    iexact HO
  iintro ⟨HB, HO⟩
  iapply (wp_wand_r Idealize.ShloMosaic.frame (wpE (defs₀ (F := F)) 𝒱₀ (thr d c) none) Set.univ)
  isplitl [HB HO]
  · iapply (wp_waitOutLast d c A g O)
    isplitl [HB]; · iexact HB
    iexact HO
  iintro %_ ⟨HD, Hs, HO⟩
  unfold Del
  ihave H := (show _ ⊢ iprop((bigSep Finset.univ fun t => oP d (rev A) (rowOf (hx c g) t)) ∗ bigSep Finset.univ fun t : Fin 8 => brP d c (inBank A (mir (hx c g))) (slot g) t.rev) from
    Entails.of_eq (bigSep_sep Finset.univ (fun t => oP d (rev A) (rowOf (hx c g) t)) (fun t : Fin 8 => brP d c (inBank A (mir (hx c g))) (slot g) t.rev))) $$ HD
  icases H with ⟨Ho, Hb⟩
  ihave Hb' := (Entails.of_eq (bank_rows d c (inBank A (mir (hx c g))) (slot g)).symm) $$ Hb
  isplitl [Hx Ho]; · isplitl [Hx] <;> iassumption
  isplitl [Hb' Hl Hs]
  · isplitl [Hb']; · iexists _; iexact Hb'
    isplitl [Hl] <;> iassumption
  iexact HO

end Cert.Rev

end
-- ==== Proof.Rev.Body.lean ====
/-
  THE SEQUENCER'S RUN. At any moment the first `a` of its 96 groups are done, those below `b` have their row copies in
  flight, those below `e` their loads, and the rest are untouched: `Groups a b e` is all 96 in that state. The three loads
  before the loop make it `0 0 3`; trip `k` starts from `max 0 (k - 1)`, `k`, `k + 3` (the last groups cut off at 96, the
  last four groups waited for after the loop), and moves each count on by one.
-/
module

public import proofs.«01_k».proof.Proof.Rev.Steps

@[expose] public section

noncomputable section

namespace Cert.Rev

open Cert.KernelIdeal Cert.KernelIdeal.Gen
open Idealize.ShloMosaic
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin (grid0.bound 0)) (A f₀ : Rows F)

/-- Group `g`'s state under the three counts; -/
def St (a b e g : Nat) : sProp 𝕄 :=
  if g < a then Done d c A g else if g < b then Outt d c A g else if g < e then Inn d c A f₀ g else Pend d c A f₀ g

/-- and every group's. -/
def Groups (a b e : Nat) : sProp 𝕄 := bigSep Finset.univ fun g : Fin 96 => St d c A f₀ a b e g.val

/-- One group out of its family, to be put back in another state, the others' states unchanged. -/
theorem bigSep_move (Φ Ψ : Fin 96 → sProp 𝕄) (g : Fin 96) (h : ∀ g', g' ≠ g → Φ g' = Ψ g') :
    bigSep Finset.univ Φ ⊢ iprop(Φ g ∗ (Ψ g -∗ bigSep Finset.univ Ψ)) := by
  rw [SparseCore.bigSep_erase' (Finset.mem_univ g) (Φ := Φ), SparseCore.bigSep_erase' (Finset.mem_univ g) (Φ := Ψ),
    bigSep_congr (s := Finset.univ.erase g) (Φ := Φ) (Ψ := Ψ) fun g' hg => h g' (Finset.ne_of_mem_erase hg)]
  iintro ⟨H, HR⟩
  isplitl [H]; · iexact H
  iintro H
  isplitl [H]; · iexact H
  iexact HR

/-- The next group to load, to store, to finish, out of the family and back one state on. -/
theorem take_load (a b e : Nat) (hab : a ≤ b) (hbe : b ≤ e) (he : e < 96) :
    Groups d c A f₀ a b e ⊢ iprop(Pend d c A f₀ e ∗ (Inn d c A f₀ e -∗ Groups d c A f₀ a b (e + 1))) := by
  have h := bigSep_move (fun g : Fin 96 => St d c A f₀ a b e g.val) (fun g : Fin 96 => St d c A f₀ a b (e + 1) g.val) ⟨e, he⟩ (fun g hg => by
    have : g.val ≠ e := fun h => hg (Fin.ext h)
    show St d c A f₀ a b e g.val = St d c A f₀ a b (e + 1) g.val
    unfold St
    simp only [show (g.val < e + 1) = (g.val < e) from propext (by omega)])
  have h1 : St d c A f₀ a b e e = Pend d c A f₀ e := by
    unfold St; rw [if_neg (by omega), if_neg (by omega), if_neg (by omega)]
  have h2 : St d c A f₀ a b (e + 1) e = Inn d c A f₀ e := by
    unfold St; rw [if_neg (by omega), if_neg (by omega), if_pos (by omega)]
  rw [← h1, ← h2]; exact h
/-- The next group to store: out of the family as loaded, and back with its row copies in flight. -/
theorem take_store (a b e : Nat) (hab : a ≤ b) (hbe : b < e) (he : e ≤ 96) :
    Groups d c A f₀ a b e ⊢ iprop(Inn d c A f₀ b ∗ (Outt d c A b -∗ Groups d c A f₀ a (b + 1) e)) := by
  have h := bigSep_move (fun g : Fin 96 => St d c A f₀ a b e g.val) (fun g : Fin 96 => St d c A f₀ a (b + 1) e g.val) ⟨b, by omega⟩ (fun g hg => by
    have : g.val ≠ b := fun h => hg (Fin.ext h)
    show St d c A f₀ a b e g.val = St d c A f₀ a (b + 1) e g.val
    unfold St
    simp only [show (g.val < b + 1) = (g.val < b) from propext (by omega)])
  have h1 : St d c A f₀ a b e b = Inn d c A f₀ b := by
    unfold St; rw [if_neg (by omega), if_neg (by omega), if_pos hbe]
  have h2 : St d c A f₀ a (b + 1) e b = Outt d c A b := by
    unfold St; rw [if_neg (by omega), if_pos (by omega)]
  rw [← h1, ← h2]; exact h
/-- The oldest group in flight: out of the family with its row copies in flight, and back done. -/
theorem take_done (a b e : Nat) (hab : a < b) (hb : b ≤ 96) :
    Groups d c A f₀ a b e ⊢ iprop(Outt d c A a ∗ (Done d c A a -∗ Groups d c A f₀ (a + 1) b e)) := by
  have h := bigSep_move (fun g : Fin 96 => St d c A f₀ a b e g.val) (fun g : Fin 96 => St d c A f₀ (a + 1) b e g.val) ⟨a, by omega⟩ (fun g hg => by
    have : g.val ≠ a := fun h => hg (Fin.ext h)
    show St d c A f₀ a b e g.val = St d c A f₀ (a + 1) b e g.val
    unfold St
    simp only [show (g.val < a + 1) = (g.val < a) from propext (by omega)])
  have h1 : St d c A f₀ a b e a = Outt d c A a := by
    unfold St; rw [if_neg (by omega), if_pos hab]
  have h2 : St d c A f₀ (a + 1) b e a = Done d c A a := by
    unfold St; rw [if_pos (by omega)]
  rw [← h1, ← h2]; exact h

variable [FloatOps F]

/-! ## The steps over all the groups -/

/-- With a bank free, the next group's load starts, and one more group counts as loading. -/
theorem load_groups (a b e : Nat) (hab : a ≤ b) (hbe : b ≤ e) (he : e < 96) (Q : PUnit → sProp 𝕄) :
    iprop(Groups d c A f₀ a b e ∗ Free d c (slot e)) ⊢ iprop((Groups d c A f₀ a b (e + 1) -∗ Q ⟨⟩) -∗ wp frame (wpE (defs₀ (F := F)) 𝒱₀ (thr d c) none) Set.univ (load c e) Q) := by
  iintro ⟨HG, HF⟩ HQ
  ihave H := (take_load d c A f₀ a b e hab hbe he) $$ HG
  icases H with ⟨HP, HG⟩
  iapply (wp_wand_r Idealize.ShloMosaic.frame (wpE (defs₀ (F := F)) 𝒱₀ (thr d c) none) Set.univ)
  isplitl [HP HF]
  · iapply (wp_load d c A f₀ e)
    isplitl [HP]; · iexact HP
    iexact HF
  iintro %_ HI
  iapply HQ; iapply HG; iexact HI

/-- The next loading group is waited for and its eight row copies start: one more group counts as stored. -/
theorem move_groups (a b e : Nat) (hab : a ≤ b) (hbe : b < e) (he : e ≤ 96) (O : CellTallies nD τ sig (HIx 1)) (Q : PUnit → sProp 𝕄) :
    iprop(Groups d c A f₀ a b e ∗ Ow d c O)
      ⊢ iprop((iprop(Groups d c A f₀ a (b + 1) e ∗ Ow d c O) -∗ Q ⟨⟩) -∗ wp frame (wpE (defs₀ (F := F)) 𝒱₀ (thr d c) none) Set.univ (loaded c b) fun _ => wp frame (wpE (defs₀ (F := F)) 𝒱₀ (thr d c) none) Set.univ (store c b) Q) := by
  iintro ⟨HG, HO⟩ HQ
  ihave H := (take_store d c A f₀ a b e hab hbe he) $$ HG
  icases H with ⟨HP, HG⟩
  iapply (wp_wand_r Idealize.ShloMosaic.frame (wpE (defs₀ (F := F)) 𝒱₀ (thr d c) none) Set.univ)
  isplitl [HP HO]
  · iapply (wp_loaded d c A f₀ b O)
    isplitl [HP]; · iexact HP
    iexact HO
  iintro %_ ⟨HH, HO⟩
  iapply (wp_wand_r Idealize.ShloMosaic.frame (wpE (defs₀ (F := F)) 𝒱₀ (thr d c) none) Set.univ)
  isplitl [HH]
  · iapply (wp_store d c A f₀ b); iexact HH
  iintro %_ HI
  iapply HQ
  isplitl [HG HI]; · iapply HG; iexact HI
  iexact HO

/-- The oldest stored group's eight copies are waited for: one more group is done, and its bank is free. -/
theorem done_groups (a b e : Nat) (hab : a < b) (hb : b ≤ 96) (O : CellTallies nD τ sig (HIx 1)) (Q : PUnit → sProp 𝕄) :
    iprop(Groups d c A f₀ a b e ∗ Ow d c O)
      ⊢ iprop((iprop(Groups d c A f₀ (a + 1) b e ∗ Free d c (slot a) ∗ Ow d c O) -∗ Q ⟨⟩) -∗ wp frame (wpE (defs₀ (F := F)) 𝒱₀ (thr d c) none) Set.univ (stored c a) Q) := by
  iintro ⟨HG, HO⟩ HQ
  ihave H := (take_done d c A f₀ a b e hab hb) $$ HG
  icases H with ⟨HP, HG⟩
  iapply (wp_wand_r Idealize.ShloMosaic.frame (wpE (defs₀ (F := F)) 𝒱₀ (thr d c) none) Set.univ)
  isplitl [HP HO]
  · iapply (wp_stored d c A a O)
    isplitl [HP]; · iexact HP
    iexact HO
  iintro %_ ⟨HD, HF, HO⟩
  iapply HQ
  isplitl [HG HD]; · iapply HG; iexact HD
  isplitl [HF]; · iexact HF
  iexact HO

/-! ## A trip, and the run -/

/-- Before trip `k`. Bank 3 is not in use before the first trip. -/
def Inv (O : CellTallies nD τ sig (HIx 1)) (k : Nat) : sProp 𝕄 :=
  iprop(Groups d c A f₀ (min (k - 1) 92) k (min (k + 3) 96) ∗ (if k = 0 then Free d c (slot 3) else iprop(emp)) ∗ Ow d c O)

/-- The loop starts with three loads in flight and the fourth bank free. -/
theorem inv_zero (O : CellTallies nD τ sig (HIx 1)) : Inv d c A f₀ O 0 = iprop(Groups d c A f₀ 0 0 3 ∗ Free d c (slot 3) ∗ Ow d c O) := rfl
/-- From the second trip on, the loop's invariant is the groups' state at the counts named. -/
theorem inv_of_pos (O : CellTallies nD τ sig (HIx 1)) (a k e : Nat) (hk : 0 < k) (ha : a = min (k - 1) 92) (he : e = min (k + 3) 96) :
    Inv d c A f₀ O k = iprop(Groups d c A f₀ a k e ∗ emp ∗ Ow d c O) := by
  unfold Inv; rw [if_neg (by omega), ha, he]

/-- One trip of the loop takes the invariant to the next. -/
theorem wp_trip (O : CellTallies nD τ sig (HIx 1)) (k : Fin k0_t1_loop.trips) :
    Inv d c A f₀ O k.val ⊢ wp frame (wpE (defs₀ (F := F)) 𝒱₀ (thr d c) none) Set.univ (trip c k) fun _ => Inv d c A f₀ O (k.val + 1) := by
  have hk : k.val < 96 := k.isLt
  unfold trip
  by_cases h : 1 ≤ k.val ∧ k.val ≤ 92
  · obtain ⟨n, hn⟩ : ∃ n, k.val = n + 1 := ⟨k.val - 1, by omega⟩
    rw [hn] at h ⊢
    rw [if_pos h, if_pos h.2]
    simp only [wp_bind, wp_pure]
    rw [inv_of_pos d c A f₀ O n (n + 1) (n + 4) (by omega) (by omega) (by omega), inv_of_pos d c A f₀ O (n + 1) (n + 2) (n + 5) (by omega) (by omega) (by omega)]
    iintro ⟨HG, -, HO⟩
    iapply (move_groups d c A f₀ n (n + 1) (n + 4) (by omega) (by omega) (by omega) O _) $$ [HG HO]
    · isplitl [HG]; · iexact HG
      iexact HO
    iintro ⟨HG, HO⟩
    iapply (done_groups d c A f₀ n (n + 2) (n + 4) (by omega) (by omega) O _) $$ [HG HO]
    · isplitl [HG]; · iexact HG
      iexact HO
    iintro ⟨HG, HF, HO⟩
    iapply (load_groups d c A f₀ (n + 1) (n + 2) (n + 4) (by omega) (by omega) (by omega) _) $$ [HG HF]
    · isplitl [HG]; · iexact HG
      iapply (Entails.of_eq (congrArg (Free d c) (show slot n = slot (n + 4) from Fin.ext (show n % 4 = (n + 4) % 4 by omega)))); iexact HF
    iintro HG
    imodintro
    isplitl [HG]; · iexact HG
    isplitr; · iempintro
    iexact HO
  · rw [if_neg h]
    by_cases h0 : k.val = 0
    · rw [if_pos (by omega), h0]
      simp only [wp_bind, wp_pure]
      rw [inv_zero, inv_of_pos d c A f₀ O 0 (0 + 1) 4 (by omega) (by omega) (by omega)]
      iintro ⟨HG, HF, HO⟩
      iapply (move_groups d c A f₀ 0 0 3 (by omega) (by omega) (by omega) O _) $$ [HG HO]
      · isplitl [HG]; · iexact HG
        iexact HO
      iintro ⟨HG, HO⟩
      iapply (load_groups d c A f₀ 0 1 3 (by omega) (by omega) (by omega) _) $$ [HG HF]
      · isplitl [HG]; · iexact HG
        iexact HF
      iintro HG
      imodintro
      isplitl [HG]; · iexact HG
      isplitr; · iempintro
      iexact HO
    · rw [if_neg (by omega)]
      simp only [wp_bind, wp_pure]
      rw [inv_of_pos d c A f₀ O 92 k.val 96 (by omega) (by omega) (by omega), inv_of_pos d c A f₀ O 92 (k.val + 1) 96 (by omega) (by omega) (by omega)]
      iintro ⟨HG, -, HO⟩
      iapply (move_groups d c A f₀ 92 k.val 96 (by omega) (by omega) (by omega) O _) $$ [HG HO]
      · isplitl [HG]; · iexact HG
        iexact HO
      iintro ⟨HG, HO⟩
      imodintro
      isplitl [HG]; · iexact HG
      isplitr; · iempintro
      iexact HO

/-- The loop. -/
theorem wp_loop (O : CellTallies nD τ sig (HIx 1)) (Q : PUnit → sProp 𝕄) :
    iprop(Groups d c A f₀ 0 0 3 ∗ Free d c (slot 3) ∗ Ow d c O)
      ⊢ iprop((iprop(Groups d c A f₀ 92 96 96 ∗ Ow d c O) -∗ Q ⟨⟩) -∗ wp frame (wpE (defs₀ (F := F)) 𝒱₀ (thr d c) none) Set.univ (Scf.Loop.for k0_t1_loop k0_t1_ok ⟨⟩ fun k _ => trip c k) Q) := by
  have h := Scf.wp_for Idealize.ShloMosaic.frame (wpE (defs₀ (F := F)) 𝒱₀ (thr d c) none) Set.univ k0_t1_loop.lb k0_t1_loop.ub k0_t1_loop.st k0_t1_ok ⟨⟩ (fun k _ => trip (F := F) c k)
    (fun k (_ : PUnit) => Inv d c A f₀ O k) (fun k _ => wp_trip d c A f₀ O k) (Q := Q)
  have e : Inv d c A f₀ O (Scf.trips k0_t1_loop.lb k0_t1_loop.ub k0_t1_loop.st) = iprop(Groups d c A f₀ 92 96 96 ∗ emp ∗ Ow d c O) := by
    rw [show Scf.trips k0_t1_loop.lb k0_t1_loop.ub k0_t1_loop.st = 96 by decide]
    exact inv_of_pos d c A f₀ O 92 96 96 (by omega) (by omega) (by omega)
  rw [inv_zero, e] at h
  iintro HI HQ
  iapply h
  isplitl [HI]; · iexact HI
  iintro %_ ⟨HG, -, HO⟩
  iapply HQ
  isplitl [HG]; · iexact HG
  iexact HO

/-- The sequencer's run: from every group untouched and the banks at rest to every group done and the banks at rest. -/
theorem wp_body (O : CellTallies nD τ sig (HIx 1)) :
    iprop(Groups d c A f₀ 0 0 0 ∗ (Free d c 0 ∗ Free d c 1 ∗ Free d c 2 ∗ Free d c 3) ∗ Ow d c O)
      ⊢ wp frame (wpE (defs₀ (F := F)) 𝒱₀ (thr d c) none) Set.univ (cc0__reverse_rows (at_ c) xW (Memref.isWhole_whole _) oW (Memref.isWhole_whole _) bW (Memref.isWhole_whole _) cc0_scratch1 cc0_scratch2)
          fun _ => iprop(Groups d c A f₀ 96 96 96 ∗ (Free d c 0 ∗ Free d c 1 ∗ Free d c 2 ∗ Free d c 3) ∗ Ow d c O) := by
  obtain ⟨v, e⟩ := body_steps (F := F) c
  rw [e]
  unfold steps
  simp only [wp_bind, wp_pure]
  iintro ⟨HG, ⟨F0, F1, F2, F3⟩, HO⟩
  iapply (load_groups d c A f₀ 0 0 0 (by omega) (by omega) (by omega) _) $$ [HG F0]
  · isplitl [HG]; · iexact HG
    iexact F0
  iintro HG
  iapply (load_groups d c A f₀ 0 0 1 (by omega) (by omega) (by omega) _) $$ [HG F1]
  · isplitl [HG]; · iexact HG
    iexact F1
  iintro HG
  iapply (load_groups d c A f₀ 0 0 2 (by omega) (by omega) (by omega) _) $$ [HG F2]
  · isplitl [HG]; · iexact HG
    iexact F2
  iintro HG
  iapply (wp_loop d c A f₀ O _) $$ [HG F3 HO]
  · isplitl [HG]; · iexact HG
    isplitl [F3]; · iexact F3
    iexact HO
  iintro ⟨HG, HO⟩
  imodintro
  iapply (done_groups d c A f₀ 92 96 96 (by omega) (by omega) O _) $$ [HG HO]
  · isplitl [HG]; · iexact HG
    iexact HO
  iintro ⟨HG, F0, HO⟩
  iapply (done_groups d c A f₀ 93 96 96 (by omega) (by omega) O _) $$ [HG HO]
  · isplitl [HG]; · iexact HG
    iexact HO
  iintro ⟨HG, F1, HO⟩
  iapply (done_groups d c A f₀ 94 96 96 (by omega) (by omega) O _) $$ [HG HO]
  · isplitl [HG]; · iexact HG
    iexact HO
  iintro ⟨HG, F2, HO⟩
  iapply (done_groups d c A f₀ 95 96 96 (by omega) (by omega) O _) $$ [HG HO]
  · isplitl [HG]; · iexact HG
    iexact HO
  iintro ⟨HG, F3, HO⟩
  imodintro
  isplitl [HG]; · iexact HG
  isplitr [HO]
  · isplitl [F0]; · iexact F0
    isplitl [F1]; · iexact F1
    isplitl [F2]; · iexact F2
    iexact F3
  iexact HO

end Cert.Rev

end
-- ==== Proof.Rev.Deal.lean ====
/-
  THE ARRAYS DEALT OUT. The two sequencers' 96 groups each are all 192 groups of the result, and their mirrors all 192 groups
  of the argument: so the argument and the result, whole, are the groups of both, and are whole again when every group is
  done. A sequencer's scratch is its four banks, and its eight copy cells are the banks' two each.
-/
module

public import proofs.«01_k».proof.Proof.Rev.Body

@[expose] public section

noncomputable section

namespace Cert.Rev

open Cert.KernelIdeal Cert.KernelIdeal.Gen
open Idealize.ShloMosaic
open Idealize.ShloMosaic.SparseCore (S)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The numbering of the groups and the rows -/

/-- Core `c`'s group `g` is group `96 c + g`: every group of the result once. -/
def groupOf : Fin (grid0.bound 0) × Fin 96 ≃ Fin 192 where
  toFun p := hx p.1 p.2.val
  invFun h := (⟨h.val / 96, by have := h.isLt; show h.val / 96 < 2; omega⟩, ⟨h.val % 96, Nat.mod_lt _ (by decide)⟩)
  left_inv p := by
    have h1 : p.1.val < 2 := p.1.isLt
    have h2 := p.2.isLt
    refine Prod.ext (Fin.ext ?_) (Fin.ext ?_)
    · show (96 * p.1.val + p.2.val) % 192 / 96 = p.1.val; omega
    · show (96 * p.1.val + p.2.val) % 192 % 96 = p.2.val; omega
  right_inv h := by
    have := h.isLt
    refine Fin.ext ?_
    show (96 * (h.val / 96) + h.val % 96) % 192 = h.val; omega

/-- Mirroring a group in its block twice is the group. -/
theorem mir_mir : Function.Involutive mir := by
  intro h
  have := h.isLt
  refine Fin.ext ?_
  show (h.val / 24 * 24 + (23 - h.val % 24)) / 24 * 24 + (23 - (h.val / 24 * 24 + (23 - h.val % 24)) % 24) = h.val
  omega

/-- Row `t` of group `h` is row `8 h + t`: every row once. -/
def rowsOf : Fin 192 × Fin 8 ≃ Fin 1536 where
  toFun p := rowOf p.1 p.2
  invFun r := (⟨r.val / 8, by have := r.isLt; omega⟩, ⟨r.val % 8, Nat.mod_lt _ (by decide)⟩)
  left_inv p := by
    have h1 := p.1.isLt
    have h2 := p.2.isLt
    refine Prod.ext (Fin.ext ?_) (Fin.ext ?_)
    · show (8 * p.1.val + p.2.val) / 8 = p.1.val; omega
    · show (8 * p.1.val + p.2.val) % 8 = p.2.val; omega
  right_inv r := by
    have := r.isLt
    refine Fin.ext ?_
    show 8 * (r.val / 8) + r.val % 8 = r.val; omega

/-! ## The argument and the result -/

variable (d : Dev nD) (A f₀ f : Rows F)

/-- The argument whole is the groups the two sequencers load; -/
theorem x_dealt : (xLoc d ↦{fullShare} A : sProp 𝕄)
    = bigSep Finset.univ fun c : Fin (grid0.bound 0) => bigSep Finset.univ fun g : Fin 96 => xP d A (mir (hx c g.val)) := by
  have h : (xLoc d ↦{fullShare} A : sProp 𝕄) = bigSep Finset.univ fun h : Fin 192 => xP d A h := by
    rw [show (Finset.univ : Finset (Idx (xLoc d))) = Finset.univ.biUnion grpSet from grp_cover.symm]
    exact pointsTo_biUnion (ℓ := xLoc d) Finset.univ grpSet fun h _ h' _ e => grp_disjoint h h' e
  rw [h, bigSep_univ_equiv mir_mir.toPerm (fun h => xP d A h), bigSep_univ_equiv groupOf, bigSep_univ_prod]
  rfl

/-- and the result whole is the rows they store. -/
theorem o_dealt : (oLoc d ↦{fullShare} f : sProp 𝕄)
    = bigSep Finset.univ fun c : Fin (grid0.bound 0) => bigSep Finset.univ fun g : Fin 96 => outs d c f g.val := by
  have h : (oLoc d ↦{fullShare} f : sProp 𝕄) = bigSep Finset.univ fun r : Fin 1536 => oP d f r := by
    rw [show (Finset.univ : Finset (Idx (oLoc d))) = Finset.univ.biUnion rowSet from row_cover.symm]
    exact pointsTo_biUnion (ℓ := oLoc d) Finset.univ rowSet fun r _ r' _ e => row_disjoint r r' e
  rw [h, bigSep_univ_equiv rowsOf, bigSep_univ_prod, bigSep_univ_equiv groupOf, bigSep_univ_prod]
  rfl

/-- What the call hands core `c`: its 96 groups untouched; and what it hands back: they are done. -/
def Given (c : Fin (grid0.bound 0)) : sProp 𝕄 := bigSep Finset.univ fun g : Fin 96 => Pend d c A f₀ g.val
def Back (c : Fin (grid0.bound 0)) : sProp 𝕄 := bigSep Finset.univ fun g : Fin 96 => Done d c A g.val

/-- Both arrays, paired group by group. -/
theorem dealt : iprop((xLoc d ↦{fullShare} A) ∗ oLoc d ↦{fullShare} f)
    = bigSep Finset.univ fun c : Fin (grid0.bound 0) => bigSep Finset.univ fun g : Fin 96 => (iprop(xP d A (mir (hx c g.val)) ∗ outs d c f g.val) : sProp 𝕄) := by
  rw [x_dealt, o_dealt]
  refine (bigSep_sep Finset.univ _ _).symm.trans ?_
  exact bigSep_congr fun c _ => (bigSep_sep Finset.univ _ _).symm

/-- The argument and the untouched result, whole, are what the two sequencers are given; -/
theorem given_eq : iprop((xLoc d ↦{fullShare} A) ∗ oLoc d ↦{fullShare} f₀) = (bigSep Finset.univ fun c => Given d A f₀ c : sProp 𝕄) := dealt d A f₀
/-- and the argument and the reversed rows, whole, are what they give back. -/
theorem back_eq : iprop((xLoc d ↦{fullShare} A) ∗ oLoc d ↦{fullShare} rev A) = (bigSep Finset.univ fun c => Back d A c : sProp 𝕄) := dealt d A (rev A)

/-- At the run's start every group is untouched; at its end every group is done. -/
theorem groups_start (c : Fin (grid0.bound 0)) : Groups d c A f₀ 0 0 0 = (Given d A f₀ c : sProp 𝕄) := by
  unfold Groups Given
  refine bigSep_congr fun g _ => ?_
  unfold St
  rw [if_neg (Nat.not_lt_zero _), if_neg (Nat.not_lt_zero _), if_neg (Nat.not_lt_zero _)]
/-- With all 96 groups done, a sequencer holds what it gives back. -/
theorem groups_end (c : Fin (grid0.bound 0)) : Groups d c A f₀ 96 96 96 = (Back d A c : sProp 𝕄) := by
  unfold Groups Back
  refine bigSep_congr fun g _ => ?_
  unfold St
  rw [if_pos g.isLt]

instance (c : Fin (grid0.bound 0)) : Storable (upEmb : UEmb _ 𝕄) (Given d A f₀ c) := by unfold Given Pend outs; infer_instance
instance (c : Fin (grid0.bound 0)) : Storable (upEmb : UEmb _ 𝕄) (Back d A c) := by unfold Back Done outs; infer_instance

/-! ## The scratch and the cells -/

variable (c : Fin (grid0.bound 0))

/-- The four banks at something each. -/
abbrev banks : sProp 𝕄 := bigSep Finset.univ fun j : Fin 4 => iprop(∃ f, bP d c f j)

/-- A bank at a known content is a bank at some content. -/
theorem some_bank (f : Banks F) (j : Fin 4) : bP d c f j ⊢ (iprop(∃ f, bP d c f j) : sProp 𝕄) := by
  iintro H; iexists f; iexact H

/-- The whole scratch, whatever it holds, is the four banks. -/
theorem banks_in : iprop(∃ f, bLoc d c ↦{fullShare} f) ⊢ (banks d c : sProp 𝕄) := by
  iintro ⟨%f, H⟩
  have h : (bLoc d c ↦{fullShare} f : sProp 𝕄) = bigSep Finset.univ fun j : Fin 4 => bP d c f j := by
    rw [show (Finset.univ : Finset (Idx (bLoc d c))) = Finset.univ.biUnion bankSet from bank_cover.symm]
    exact pointsTo_biUnion (ℓ := bLoc d c) Finset.univ bankSet fun j _ j' _ e => bank_disjoint j j' e
  have hm : (bigSep Finset.univ fun j : Fin 4 => bP d c f j : sProp 𝕄) ⊢ banks d c := bigSep_mono fun j _ => some_bank d c f j
  ihave H := (Entails.of_eq h) $$ H
  iapply hm
  iexact H

/-- Four of a family, one by one. -/
theorem bigSep4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

/-- The four banks, at something each, are the whole scratch at something. -/
theorem banks_out : (banks d c : sProp 𝕄) ⊢ iprop(∃ f, bLoc d c ↦{fullShare} f) := by
  unfold banks
  rw [bigSep4]
  iintro ⟨⟨%f0, H0⟩, ⟨%f1, H1⟩, ⟨%f2, H2⟩, ⟨%f3, H3⟩⟩
  ihave H := (pointsTo_biUnion_join (ℓ := bLoc d c) (q := fullShare) (Finset.univ : Finset (Fin 4)) bankSet (![f0, f1, f2, f3] : Fin 4 → Banks F) f0
    fun j _ j' _ e => bank_disjoint j j' e) $$ [H0 H1 H2 H3]
  · rw [bigSep4]
    isplitl [H0]; · iexact H0
    isplitl [H1]; · iexact H1
    isplitl [H2]; · iexact H2
    iexact H3
  icases H with ⟨%g, -, H⟩
  iexists g
  rw [show Finset.univ.biUnion bankSet = Finset.univ from bank_cover]
  iexact H

/-- The eight cells, bank by bank: its load cell and its store cell. -/
def cellOf (p : Fin 4 × Bool) : GSem nD τ sig := (thr d c, .dma (if p.2 then ld p.1 else st p.1))

/-- They are eight different cells, -/
theorem cellOf_inj : Function.Injective (cellOf d c) := by
  intro a b h
  have h' : (SemLoc.dma (if a.2 then ld a.1 else st a.1) : SemLoc sig) = .dma (if b.2 then ld b.1 else st b.1) := congrArg Prod.snd h
  exact (show ∀ a b : Fin 4 × Bool, (SemLoc.dma (if a.2 then ld a.1 else st a.1) : SemLoc sig) = .dma (if b.2 then ld b.1 else st b.1) → a = b by decide) a b h'

/-- all the sequencer's own. -/
theorem cellOf_mem (p : Fin 4 × Bool) : cellOf d c p ∈ ownCells (thr d c) :=
  mem_ownCells.mpr ⟨rfl, (show ∀ s : DmaSem sig, (SemLoc.dma s : SemLoc sig).isScoped .scScalar = true by decide) _⟩

/-- The sequencer's own cells at zero: the banks', and the rest. -/
theorem ownSems0_S : (ownSems0 (thr d c) : sProp 𝕄)
    = iprop((bigSep Finset.univ fun j : Fin 4 => iprop(lS d c j ∗ sS d c j))
        ∗ bigSep (ownCells (thr d c) \ Finset.univ.image (cellOf d c)) fun g => semVal g 0) := by
  unfold SparseCore.Cfg.ownSems0
  rw [SparseCore.bigSep_sdiff_split' (t := Finset.univ.image (cellOf d c)) (Finset.image_subset_iff.mpr fun k _ => cellOf_mem d c k),
    SparseCore.bigSep_image_of_injOn (fun a _ b _ h => cellOf_inj d c h), bigSep_univ_prod]
  congr 1
  refine bigSep_congr fun j _ => ?_
  rw [show (Finset.univ : Finset Bool) = {true, false} by decide, SparseCore.bigSep_insert' (by decide), bigSep_singleton]
  rfl

/-- The scratch is among the sequencer's own buffers: it is it, at some contents, and the rest. -/
theorem ownBufs_S : (ownBufs (thr d c) : sProp 𝕄)
    = iprop((∃ f, bLoc d c ↦{fullShare} f)
        ∗ bigSep ((ownRefs (τ := τ) (.scScalar (c.castLE hcore0))).erase ((Proc.scScalar (c.castLE hcore0)).devRef cc0_scratch0)) fun b => iprop(∃ f, ((d, b) : Loc nD τ sig) ↦{fullShare} f)) := by
  unfold SparseCore.Cfg.ownBufs
  exact SparseCore.bigSep_erase' ((mem_ownRefs (p := Proc.scScalar (c.castLE hcore0)) (b := (Proc.scScalar (c.castLE hcore0)).devRef cc0_scratch0)).mpr rfl)

/-- Banks and cells together are the four banks at rest. -/
theorem free_eq : iprop(banks d c ∗ bigSep Finset.univ fun j : Fin 4 => iprop(lS d c j ∗ sS d c j))
    = (iprop(Free d c 0 ∗ Free d c 1 ∗ Free d c 2 ∗ Free d c 3) : sProp 𝕄) := by
  unfold banks
  refine (bigSep_sep Finset.univ (fun j => iprop(∃ f, bP d c f j)) (fun j => (iprop(lS d c j ∗ sS d c j) : sProp 𝕄))).symm.trans ?_
  exact bigSep4 (fun j => Free d c j)

end Cert.Rev

end
-- ==== Proof.Rev.Launch.lean ====
/-
  THE PROGRAM'S RUN. @main lays the argument out as 1536 rows, hands them and the result's rows to the two sequencers, and
  lays what they leave out as the argument was. Every weakly fair execution ends, the argument unchanged, every semaphore at
  zero, the result the argument's rows mirrored.
-/
module

public import proofs.«01_k».proof.Proof.Rev.Deal

@[expose] public section

noncomputable section

namespace Cert.Rev

open Cert.KernelIdeal Cert.KernelIdeal.Gen
open Idealize.ShloMosaic
open Idealize.ShloMosaic.SparseCore (S)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-- The generated launch's side conditions hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

variable (m : (ℓ : Loc nD τ sig) → Buf (Elt F) ℓ) (ρ : Dev nD → PrngReg) (d : Dev nD)

/-! ## What @main computes -/

abbrev argLoc : Loc nD τ sig := (SparseCore.T d).loc main_arg0
abbrev resLoc : Loc nD τ sig := (SparseCore.T d).loc main_v2

/-- The argument's rows; the result's rows at launch. -/
def rowsIn : Rows F := shapeCast S1536x50176 (m (argLoc d)) shapeCasts_S8x192x224x224_S1536x50176
def rowsOld : Rows F := m (oLoc d)
/-- An array's channels, last first, as the kernel makes them: its rows mirrored. -/
def flip (x : S8x192x224x224.Idx → Elt F .f32) : S8x192x224x224.Idx → Elt F .f32 :=
  shapeCast S8x192x224x224 (rev (shapeCast S1536x50176 x shapeCasts_S8x192x224x224_S1536x50176)) shapeCasts_S1536x50176_S8x192x224x224

/-! ## The call's payloads -/

/-- The call of `q` on core `c` of its grid, as a core of this kernel's. -/
def coreOf : (q : Fin 1) → Fin ((K (F := F)).nCore q) → Fin (grid0.bound 0)
  | 0, c => c

variable [FloatOps F]

/-- Each sequencer takes its groups untouched and gives them back done; nothing of the kernel's own. -/
def P : (K (F := F)).Pay (nD := nD) (Val := Elt F) (Name := ℕ) (U := UU) where
  st := fun q d c => Given d (rowsIn m d) (rowsOld m d) (coreOf q c)
  dn := fun q d c => Back d (rowsIn m d) (coreOf q c)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's obligation -/

/-- The kernel on a sequencer, from its groups and its own scratch and cells, to them. -/
theorem body₀ (hF : (K (F := F)).Facts) (c : Fin (grid0.bound 0)) (A f₀ : Rows F) (O : CellTallies nD τ sig (HIx 1)) (W : Waits sig (HIx 1)) (hO : ∀ g, O g none = 0) :
    iprop(levAts (K (F := F)).L (K (F := F)).lev ∗ emp ∗ Given d A f₀ c
        ∗ scopedBufs (thr d c) ∗ scopedSems0 (thr d c) ∗ owes (thr d c) O W)
      ⊢ wp frame (wpE (defs₀ (F := F)) 𝒱₀ (thr d c) none) Set.univ
          (cc0__reverse_rows (at_ c) xW (Memref.isWhole_whole _) oW (Memref.isWhole_whole _) bW (Memref.isWhole_whole _) cc0_scratch1 cc0_scratch2)
          fun _ => iprop(Back d A c ∗ scopedBufs (thr d c) ∗ scopedSems0 (thr d c)
            ∗ ∃ W', ⌜∀ p ∈ W', p ∈ W ∨ p.2 = none ∨ p.2 = some (0 : Fin 1)⌝ ∗ owes (thr d c) O W') := by
  rw [(K (F := F)).scopedBufs_S hF d _, SparseCore.Cfg.scopedSems0_S (Val := Elt F) d _, ownSems0_S, ownBufs_S]
  iintro ⟨#Hlv, -, HG, ⟨⟨Hb, Hbufs⟩, Htiles⟩, ⟨⟨HC, Hsems⟩, HtileSems⟩, HO⟩
  ihave Hmw := ((K (F := F)).mayWaits_none (thr := thr d c) hO) $$ Hlv
  ihave Hb := (banks_in d c) $$ Hb
  ihave HF := (Entails.of_eq (free_eq d c)) $$ [Hb HC]
  · isplitl [Hb]; · iexact Hb
    iexact HC
  ihave HG := (Entails.of_eq (groups_start d A f₀ c).symm) $$ HG
  iapply (wp_wand_r Idealize.ShloMosaic.frame (wpE (defs₀ (F := F)) 𝒱₀ (thr d c) none) Set.univ)
  isplitl [HG HF HO]
  · iapply (wp_body d c A f₀ O)
    isplitl [HG]; · iexact HG
    isplitl [HF]; · iexact HF
    unfold Ow
    isplitr; · iexact Hmw
    iexists W; iexact HO
  iintro %_ ⟨HG, HF, HO⟩
  unfold Ow
  icases HO with ⟨-, %W', HO⟩
  isplitl [HG]; · iapply (Entails.of_eq (groups_end d A f₀ c)); iexact HG
  ihave HF := (Entails.of_eq (free_eq d c).symm) $$ HF
  icases HF with ⟨Hb, HC⟩
  isplitl [Hb Hbufs Htiles]
  · isplitl [Hb Hbufs]
    · isplitl [Hb]; · iapply (banks_out d c); iexact Hb
      iexact Hbufs
    iexact Htiles
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

/-- The body table at a sequencer of the grid is the kernel at its coordinate. -/
theorem defs₀_core (c : Fin (grid0.bound 0)) :
    defs₀ (F := F) (.scScalar (c.castLE hcore0)) 0 ()
      = cc0__reverse_rows (at_ c) xW (Memref.isWhole_whole _) oW (Memref.isWhole_whole _) bW (Memref.isWhole_whole _) cc0_scratch1 cc0_scratch2 :=
  SparseCore.onCore_of_lt hcore0 (fun c => cc0__reverse_rows (F := F) (at_ c) xW (Memref.isWhole_whole _) oW (Memref.isWhole_whole _) bW (Memref.isWhole_whole _) cc0_scratch1 cc0_scratch2) ⟨⟩ c

set_option maxHeartbeats 1000000 in
/-- Every sequencer of the call's grid runs the kernel at its coordinate. -/
theorem scalarObl : (K (F := F)).ScalarObl (D (F := F)) 𝒱 (P m) v₀ 0 := by
  intro d c O W hO _ _
  simp only [show (P m).ox = fun _ _ => 0 from rfl, add_zero]
  change Fin (grid0.bound 0) at c
  change _ ⊢ wp _ _ _ (Pipeline.liftProg (defs₀ (F := F) (.scScalar (c.castLE hcore0)) 0 ())) _
  refine BI.Entails.trans ?_ (Pipeline.wp_liftProg (D (F := F)) (Pipeline.defs_kernel pcfgs defs₀) 𝒱₀ _ Set.univ none _ _)
  rw [defs₀_core]
  exact body₀ d facts c (rowsIn m d) (rowsOld m d) O W hO

/-! ## The launch element: the handshakes' rounds; nothing of the kernel's own -/

/-- The launch element: the handshakes' rounds at their start. -/
def u₀ : UU := (initOf (K (F := F)).hsCells (K (F := F)).hsToks, 1)

/-- It makes the handshakes' cells, their tokens and nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The layout of the argument as rows, and of the rows as the result. -/
abbrev opIn : HloOp τ sig (Elt F) := StableHlo.reshape main_arg0 main_v0 (rfl : (.f32 : EltTy) = .f32) shapeCasts_S8x192x224x224_S1536x50176
abbrev opOut : HloOp τ sig (Elt F) := StableHlo.reshape main_v1 main_v2 (rfl : (.f32 : EltTy) = .f32) shapeCasts_S1536x50176_S8x192x224x224

/-- The TensorCore's arrays: the argument, its rows, the result's rows, the result. -/
abbrev S4' : Finset (DevRef τ sig) := {a', x', o', r'}

/-- Holding the four arrays is holding each. -/
theorem held_S4 (W : Valuation τ sig (Elt F)) :
    (held (SparseCore.T d) S4' W : sProp 𝕄)
      = iprop((argLoc d ↦{fullShare} W a') ∗ (xLoc d ↦{fullShare} W x') ∗ (oLoc d ↦{fullShare} W o') ∗ resLoc d ↦{fullShare} W r') := by
  unfold held S4'
  rw [SparseCore.bigSep_insert' (by decide), SparseCore.bigSep_insert' (by decide), SparseCore.bigSep_insert' (by decide), bigSep_singleton]

theorem unscopedBufs_eq (W : (b : Ref sig .tc) → Buf (Elt F) ((d.tc : Thread nD τ).loc b)) :
    (unscopedBufs d W : sProp 𝕄)
      = iprop((argLoc d ↦{fullShare} W main_arg0) ∗ (xLoc d ↦{fullShare} W main_v0) ∗ (oLoc d ↦{fullShare} W main_v1) ∗ resLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at launch; after the first layout; after the call; after the second layout. -/
def V0 : Valuation τ sig (Elt F) := fun b => m (d, b)
def V1 : Valuation τ sig (Elt F) := (opIn (F := F)).result (V0 m d)
def V2 : Valuation τ sig (Elt F) := Function.update (V1 m d) o' (rev (rowsIn m d) : Rows F)
def V3 : Valuation τ sig (Elt F) := (opOut (F := F)).result (V2 m d)

/-- What @main starts with is the four arrays as memory has them. -/
theorem unscoped_held : (unscopedBufs d (fun b => m ((SparseCore.T d).loc b)) : sProp 𝕄) = held (SparseCore.T d) S4' (V0 m d) := by
  rw [unscopedBufs_eq, held_S4]; rfl

/-- The arrays after the first reshape, after the call and after the last: the argument never changes, the call's argument is the rows, and the result is the argument flipped. -/
theorem V1_a : V1 m d a' = m (argLoc d) := StableHlo.reshape_result_ne _ _ _ _ _ _ (V0 m d) (r := main_arg0) (by decide)
theorem V1_x : V1 m d x' = rowsIn m d :=
  (StableHlo.reshape_result (Val := Elt F) main_arg0 main_v0 rfl shapeCasts_S8x192x224x224_S1536x50176 _ _ (V0 m d)).trans rfl
theorem V1_o : V1 m d o' = rowsOld m d := StableHlo.reshape_result_ne _ _ _ _ _ _ (V0 m d) (r := main_v1) (by decide)
theorem V2_a : V2 m d a' = m (argLoc d) := (Function.update_of_ne (show a' ≠ o' by decide) _ _).trans (V1_a m d)
theorem V2_x : V2 m d x' = rowsIn m d := (Function.update_of_ne (show x' ≠ o' by decide) _ _).trans (V1_x m d)
theorem V2_o : V2 m d o' = rev (rowsIn m d) := Function.update_self _ _ _
theorem V2_r : V2 m d r' = V1 m d r' := Function.update_of_ne (show r' ≠ o' by decide) _ _
theorem V3_a : V3 m d a' = m (argLoc d) :=
  (StableHlo.reshape_result_ne _ _ _ _ _ _ (V2 m d) (r := main_arg0) (by decide)).trans (V2_a m d)
theorem V3_r : V3 m d r' = flip (m (argLoc d)) :=
  (StableHlo.reshape_result (Val := Elt F) main_v1 main_v2 rfl shapeCasts_S1536x50176_S8x192x224x224 _ _ (V2 m d)).trans (by
    funext i
    show shapeCast S8x192x224x224 (V2 m d o') shapeCasts_S1536x50176_S8x192x224x224 i = _
    rw [V2_o]; rfl)

/-- What the call takes for its two sequencers, and what it hands back: the argument's rows and the result's, whole. -/
theorem st0_eq : (bigSep Finset.univ fun c : Fin ((K (F := F)).nCore 0) => (P m).st 0 d c) = iprop((xLoc d ↦{fullShare} rowsIn m d) ∗ oLoc d ↦{fullShare} rowsOld m d) :=
  (given_eq d (rowsIn m d) (rowsOld m d)).symm
theorem dn0_eq : (bigSep Finset.univ fun c : Fin ((K (F := F)).nCore 0) => (P m).dn 0 d c) = iprop((xLoc d ↦{fullShare} rowsIn m d) ∗ oLoc d ↦{fullShare} rev (rowsIn m d)) :=
  (back_eq d (rowsIn m d)).symm

theorem hIn : (opIn (F := F)).bufs ⊆ S4' := show ({a', x'} : Finset (DevRef τ sig)) ⊆ S4' by decide
theorem hOut : (opOut (F := F)).bufs ⊆ S4' := show ({o', r'} : Finset (DevRef τ sig)) ⊆ S4' by decide

/-- What @main leaves: the argument at its launch contents, the result its channels last first. -/
abbrev FIN : sProp 𝕄 := iprop((argLoc d ↦{fullShare} m (argLoc d)) ∗ resLoc d ↦{fullShare} (flip (m (argLoc d)) : S8x192x224x224.Idx → Elt F .f32))

/-- @main on a TensorCore: the layout, the call, the layout back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4') hIn (V := V0 m d)) $$ [Hb Hheld]
  · isplitl [Hb]; · iexact Hb
    iexact Hheld
  iintro ⟨Hb, Hheld⟩
  ihave Hh := (Entails.of_eq (show held (SparseCore.T d) S4' ((opIn (F := F)).result (V0 m d)) = _ from held_S4 (F := F) d (V1 m d))) $$ Hheld
  icases Hh with ⟨Ha, Hx, Ho, Hr⟩
  rw [wp_ret]; imodintro
  iapply ((K (F := F)).wp_run (D (F := F)) 𝒱 (EH := EH) (P := P m) κ d 0) $$ [Hst Ha Hx Ho Hb Hr Hts]
  isplitr; · iexact Hctx
  isplitl [Hst]; · iexact Hst
  isplitl [Hx Ho]
  · rw [st0_eq, V1_x, V1_o]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S4') hOut (V := V2 m d)) $$ [Hb Ha Hx Ho Hr]
  · isplitl [Hb]; · iexact Hb
    rw [held_S4, V2_a, V2_x, V2_o, V2_r, V1_a]
    isplitl [Ha]; · iexact Ha
    isplitl [Hx]; · iexact Hx
    isplitl [Ho]; · iexact Ho
    iexact Hr
  iintro ⟨Hb, Hheld⟩
  ihave Hh := (Entails.of_eq (show held (SparseCore.T d) S4' ((opOut (F := F)).result (V2 m d)) = _ from held_S4 (F := F) d (V3 m d))) $$ Hheld
  rw [V3_a, V3_r]
  icases Hh with ⟨Ha, -, -, Hr⟩
  rw [wp_ret]; imodintro; imodintro
  isplitl [Hst]; · iexact Hst
  isplitr [Hb Hts]
  · isplitl [Ha]; · iexact Ha
    iexact Hr
  isplitl [Hb] <;> iassumption

/-- The end, read off memory: the argument as it was, the result its flip. -/
def fq (s' : Phys nD τ sig (Elt F)) : Prop := s'.mem.mem (argLoc d) = m (argLoc d) ∧ s'.mem.mem (resLoc d) = flip (m (argLoc d))

omit [FloatOps F] in
/-- What the device's thread ends with says so of the memory. -/
theorem hfin (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%ha, HSI, -⟩
  ihave H := (SI_pointsTo_agree (st := s') (ℓ := resLoc d) (I := Finset.univ) (q := fullShare) (f := flip (m (argLoc d)))) $$ [HSI Hr]
  · isplitl [HSI] <;> iassumption
  icases H with %hr
  ipureintro; exact ⟨funext fun i => ha i (Finset.mem_univ i), funext fun i => hr i (Finset.mem_univ i)⟩

/-! ## The run -/

/-- How every execution ends. -/
def QC : PUnit × MemSt nD τ sig (Elt F) → Prop := fun r =>
  (∀ d : Dev nD, r.2.mem (argLoc d) = m (argLoc d) ∧ r.2.mem (resLoc d) = flip (m (argLoc d))) ∧ r.2.sem = fun _ => 0

/-- Every execution of the program ends, with the argument unchanged, the result its flip along the channels, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Rev

end
-- ==== Proof.Rev.Value.lean ====
/-
  THE REFERENCE'S VALUE. The reference takes channel `191 - n` of the argument as its channel `n`: it computes the numbers
  `191 - n`, wraps the negative ones (there is none), gathers those channels, and keeps a gathered channel where its number is
  in range (each is). The kernel's result, the argument's rows mirrored in blocks of 192, is the same array.
-/
module

public import proofs.«01_k».proof.Proof.Gen.ReferenceIdeal.Run
public import proofs.«01_k».proof.Proof.Rev.Launch
public import Idealize.ShloMosaic.Lib.ReduceAll
public import Idealize.ShloMosaic.Lib.ValueIdxCore
public import Idealize.ShloMosaic.Lib.Pipeline.Value

@[expose] public section

noncomputable section

namespace Cert.Rev.Value

open Cert.ReferenceIdeal Cert.ReferenceIdeal.Gen
open Idealize.ShloMosaic Idealize.ShloMosaic.ValueIdx

variable {F : FTy → Type}

/-- Channel `n`'s number as the program computes it, `191 + (-1) n`; -/
def counted : IVec S192 32 :=
  addi (broadcastInDim S192 ![] bcast_S_S192 (constantI S_ 32 191#32)) (muli (broadcastInDim S192 ![] bcast_S_S192 (constantI S_ 32 4294967295#32)) (iotaInDim S192 32 0))
/-- with 192 added where it is negative; -/
def wrapped : IVec S192 32 :=
  select (cmpi .slt counted (broadcastInDim S192 ![] bcast_S_S192 (constantI S_ 32 0#32))) (addi counted (broadcastInDim S192 ![] bcast_S_S192 (constantI S_ 32 192#32))) counted
/-- as a column of start indices; -/
def starts : IVec S192x1 32 := broadcastInDim S192x1 ![0] bcast_S192_S192x1_0 wrapped
/-- and whether it is in range. -/
def ranged : IVec S192x1 1 :=
  andi (cmpi .sge starts (broadcastInDim S192x1 ![] bcast_S_S192x1 (constantI S_ 32 0#32)))
    (cmpi .sle starts (broadcastInDim S192x1 ![0, 1] bcast_S1x1_S192x1_0_1 (broadcastInDim S1x1 ![1] bcast_S1_S1x1_1 (constantI S1 32 191#32))))
/-- Every number of every channel in range. -/
def kept : IVec S192 1 := Host.reduce IntOp.andi ranged (constantI S_ 1 1#1) reducesTo_S192x1_S192_d1 h_S_

/-- The start indices are the channels' numbers from the last, -/
theorem starts_eq : ∀ n : Fin 192, starts (ix2 n (0 : Fin 1)) = BitVec.ofNat 32 (191 - n.val) := by decide +kernel
/-- and all are in range. -/
theorem ranged_eq : ∀ n : Fin 192, ranged (ix2 n (0 : Fin 1)) = 1#1 := by decide +kernel
/-- So the range check keeps every channel. -/
theorem kept_eq (j : S192.Idx) : kept j = 1#1 :=
  Host.reduce_andi_one _ _ _ _ j rfl fun i => by
    have h : i = (ix2 (i 0) (0 : Fin 1) : S192x1.Idx) := by
      funext a
      fin_cases a
      · rfl
      · exact Subsingleton.elim (α := Fin 1) _ _
    rw [h]; exact ranged_eq (i 0)

/-- The channel opposite. -/
@[reducible] def opp (n : Fin 192) : Fin 192 := ⟨191 - n.val, by omega⟩

/-- The gather's dimensions. -/
abbrev gd : GatherDims S8x192x224x224 S192x1 S8x192x224x224 := gather_S8x192x224x224_S192x1_S8x192x224x224_023_1_n_n_1_1_81224224

/-- The gather reads, of the opposite channel, the element at the same place. -/
theorem gather_eq (x : S8x192x224x224.Idx → Elt F .f32) (b : Fin 8) (n : Fin 192) (y z : Fin 224) :
    Host.gather gd x starts (ix4 b n y z) = x (ix4 b (opp n) y z) := by
  unfold Host.gather
  refine congrArg x (funext fun a => Fin.ext ?_)
  show GatherDims.start gd (ix4 b n y z) starts a + GatherDims.batchCoord gd (ix4 b n y z) a + GatherDims.offCoord gd (ix4 b n y z) a = _
  rw [GatherDims.batchCoord_eq_zero _ _ _ List.not_mem_nil, Nat.add_zero]
  have other : ∀ a : Fin 4, a ≠ 1 → GatherDims.start gd (ix4 b n y z) starts a = 0 := fun a ha => by
    unfold GatherDims.start
    exact dif_neg (fun h => ha (List.mem_singleton.mp h))
  match a with
  | ⟨0, _⟩ => rw [other ⟨0, by decide⟩ (by decide), Nat.zero_add]; rfl
  | ⟨2, _⟩ => rw [other ⟨2, by decide⟩ (by decide), Nat.zero_add]; rfl
  | ⟨3, _⟩ => rw [other ⟨3, by decide⟩ (by decide), Nat.zero_add]; rfl
  | ⟨1, _⟩ =>
    show GatherDims.start gd (ix4 b n y z) starts 1 + GatherDims.offCoord gd (ix4 b n y z) 1 = 191 - n.val
    rw [GatherDims.offCoord_eq_zero _ _ _ (fun h => ((GatherDims.mem_sKept _ _).mp h).1 (List.mem_singleton.mpr rfl)), Nat.add_zero]
    unfold GatherDims.start
    rw [dif_pos (show (1 : Fin 4) ∈ gd.startIndexMap from List.mem_singleton.mpr rfl)]
    have hsi : GatherDims.siIdx gd (ix4 b n y z) ⟨List.idxOf (1 : Fin 4) gd.startIndexMap, List.idxOf_lt_length_iff.2 (List.mem_singleton.mpr rfl)⟩ = ix2 n (0 : Fin 1) := by
      funext b'; refine Fin.ext ?_
      match b' with
      | ⟨0, _⟩ => rfl
      | ⟨1, _⟩ => rfl
    rw [hsi, starts_eq]
    have hn := n.isLt
    have ht : (BitVec.ofNat 32 (191 - n.val)).toInt.toNat = 191 - n.val :=
      (show ∀ n : Fin 192, (BitVec.ofNat 32 (191 - n.val)).toInt.toNat = 191 - n.val by decide +kernel) n
    rw [ht]
    show min (191 - n.val) (192 - 1) = 191 - n.val
    omega

/-- The kernel's result: the opposite channel's element at the same place. -/
theorem flip_eq (x : S8x192x224x224.Idx → Elt F .f32) (b : Fin 8) (n : Fin 192) (y z : Fin 224) :
    flip x (ix4 b n y z) = x (ix4 b (opp n) y z) := by
  have hb := b.isLt
  have hn := n.isLt
  have hy := y.isLt
  have hz := z.isLt
  unfold flip
  rw [shapeCast_apply _ _ (ix4 b n y z) (ix2 (⟨b.val * 192 + n.val, by omega⟩ : Fin 1536) (⟨y.val * 224 + z.val, by omega⟩ : Fin 50176)) (by
    rw [Shape.rowMajor_val_two, Shape.rowMajor_val_four]
    show (b.val * 192 + n.val) * 50176 + (y.val * 224 + z.val) = ((b.val * 192 + n.val) * 224 + y.val) * 224 + z.val
    omega)]
  unfold rev
  exact shapeCast_apply _ _ _ (ix4 b (opp n) y z) (by
    rw [Shape.rowMajor_val_two, Shape.rowMajor_val_four]
    show ((b.val * 192 + (191 - n.val)) * 224 + y.val) * 224 + z.val
      = ((b.val * 192 + n.val) / 192 * 192 + (191 - (b.val * 192 + n.val) % 192)) * 50176 + (y.val * 224 + z.val)
    omega)

variable [FloatOps F]

/-- What the reference leaves. -/
def taken (x : S8x192x224x224.Idx → Elt F .f32) : S8x192x224x224.Idx → Elt F .f32 :=
  select (broadcastInDim S8x192x224x224 ![1] bcast_S192_S8x192x224x224_1 kept) (Host.gather gd x starts)
    (broadcastInDim S8x192x224x224 ![] bcast_S_S8x192x224x224 (constant (F := F) S_ .f32 0x7FC00000#32))

/-- It is what the kernel leaves. -/
theorem taken_at (x : S8x192x224x224.Idx → Elt F .f32) (b : Fin 8) (n : Fin 192) (y z : Fin 224) :
    taken x (ix4 b n y z) = flip x (ix4 b n y z) := by
  rw [flip_eq]
  unfold taken
  rw [select_apply, show broadcastInDim S8x192x224x224 ![1] bcast_S192_S8x192x224x224_1 kept (ix4 b n y z) = 1#1 from kept_eq _]
  exact (if_pos rfl).trans (gather_eq x _ _ _ _)
/-- The reference's value, at every entry, is the flip. -/
theorem taken_eq (x : S8x192x224x224.Idx → Elt F .f32) : taken x = flip x := by
  funext i
  have hi : i = (ix4 (i 0) (i 1) (i 2) (i 3) : S8x192x224x224.Idx) := by
    funext a; fin_cases a <;> rfl
  exact (congrArg (taken x) hi).trans ((taken_at x (i 0) (i 1) (i 2) (i 3)).trans (congrArg (flip x) hi.symm))

end Cert.Rev.Value

end
-- ==== Proof.lean ====
/-
  THE CLAIMS. The kernel's run is proved once, over any float values (`Cert.Rev.run_main`); from it come both frames of
  the kernel, and with the references' generated runs and `taken_eq` the two value claims.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Rev.Value
public import Idealize.ShloMosaic.Adequacy
public import Idealize.ShloMosaic.Init

@[expose] public section

noncomputable section

namespace Cert.Proof

open Idealize.ShloMosaic Idealize.SL.Sem Cert.Rev

/-! The kernel's run, proved once over any float values (`run_main`), gives the kernel's half of every claim; the
references' runs are the generated ones, their value the kernel's (`taken_eq`). -/

/-- The idealised kernel's frame, -/
theorem frame_kernelIdeal : Cert.quiescent_KernelIdeal := fun m ρ _ =>
  (θ_run Cert.KernelIdeal.defs _ _).mono (fun _ h => ⟨fun c => (h.1 c).1, h.2⟩) (run_main m ρ)

/-- and the kernel's. -/
theorem frame_kernel : Cert.quiescent_Kernel := fun m ρ _ =>
  (θ_run Cert.KernelIdeal.defs _ _).mono (fun _ h => ⟨fun c => (h.1 c).1, h.2⟩) (run_main (F := Bits) m ρ)

/-- The idealised reference's frame: it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)
/-- The reference's own frame, likewise. -/
theorem frame_reference : Cert.quiescent_Reference := fun m ρ _ =>
  (θ_run Cert.Reference.defs _ _).mono (fun r h => ⟨fun c => (h c).2, sem_eq_zero_of_no_sems (by decide) r.2⟩) (Cert.Reference.Value.run m ρ)

/-- Over the ideal values the kernel and the reference leave the same result; -/
theorem algebraic : Cert.algebraic_KernelIdeal_ReferenceIdeal := by
  intro m ρ m' ρ' _ hagree
  refine ⟨fun c => flip (m (argLoc c)), (θ_run Cert.KernelIdeal.defs _ _).mono (fun _ h c => ⟨(h.1 c).2, (h.1 c).1⟩) (run_main m ρ),
    (θ_run Cert.ReferenceIdeal.defs _ _).mono (fun _ h c => ⟨(h c).1.trans ?_, (h c).2⟩) (Cert.ReferenceIdeal.Value.run m' ρ')⟩
  rw [hagree c]
  exact Cert.Rev.Value.taken_eq (m (argLoc c))

/-- and so they do bit for bit. -/
theorem bitexact : Cert.bitexact_Kernel_Reference := by
  intro m ρ m' ρ' _ hagree
  refine ⟨fun c => flip (m (argLoc c)), (θ_run Cert.KernelIdeal.defs _ _).mono (fun _ h c => ⟨(h.1 c).2, (h.1 c).1⟩) (run_main (F := Bits) m ρ),
    (θ_run Cert.Reference.defs _ _).mono (fun _ h c => ⟨(h c).1.trans ?_, (h c).2⟩) (Cert.Reference.Value.run m' ρ')⟩
  rw [hagree c]
  exact Cert.Rev.Value.taken_eq (F := Bits) (m (argLoc c))

/-- All the claims. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
